-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S256x512 : Shape := ⟨2, ![256, 512]⟩
abbrev S128x512 : Shape := ⟨2, ![128, 512]⟩
abbrev S45 : Shape := ⟨1, ![45]⟩
abbrev S_ : Shape := ⟨0, ![]⟩
abbrev S768x512 : Shape := ⟨2, ![768, 512]⟩
abbrev S256x768 : Shape := ⟨2, ![256, 768]⟩
abbrev S1 : Shape := ⟨1, ![1]⟩

abbrev nBuf : Space → Nat
  | .hbm => 3
  | .vmem => 58
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x1536, .f32⟩
  | .local _ .vmem, ⟨4, _⟩ => ⟨S256x512, .bf16⟩
  | .local _ .vmem, ⟨5, _⟩ => ⟨S128x512, .bf16⟩
  | .local _ .vmem, ⟨6, _⟩ => ⟨S128x512, .bf16⟩
  | .local _ .vmem, ⟨7, _⟩ => ⟨S256x512, .bf16⟩
  | .local _ .vmem, ⟨8, _⟩ => ⟨S128x512, .bf16⟩
  | .local _ .vmem, ⟨9, _⟩ => ⟨S128x512, .bf16⟩
  | .local _ .vmem, ⟨10, _⟩ => ⟨S256x512, .bf16⟩
  | .local _ .vmem, ⟨11, _⟩ => ⟨S128x512, .bf16⟩
  | .local _ .vmem, ⟨12, _⟩ => ⟨S128x512, .bf16⟩
  | .local _ .vmem, ⟨13, _⟩ => ⟨S256x512, .bf16⟩
  | .local _ .vmem, ⟨14, _⟩ => ⟨S128x512, .bf16⟩
  | .local _ .vmem, ⟨15, _⟩ => ⟨S128x512, .bf16⟩
  | .local _ .vmem, ⟨16, _⟩ => ⟨S256x512, .bf16⟩
  | .local _ .vmem, ⟨17, _⟩ => ⟨S128x512, .bf16⟩
  | .local _ .vmem, ⟨18, _⟩ => ⟨S128x512, .bf16⟩
  | .local _ .vmem, ⟨19, _⟩ => ⟨S256x512, .bf16⟩
  | .local _ .vmem, ⟨20, _⟩ => ⟨S128x512, .bf16⟩
  | .local _ .vmem, ⟨21, _⟩ => ⟨S128x512, .bf16⟩
  | .local _ .vmem, ⟨22, _⟩ => ⟨S256x512, .bf16⟩
  | .local _ .vmem, ⟨23, _⟩ => ⟨S128x512, .bf16⟩
  | .local _ .vmem, ⟨24, _⟩ => ⟨S128x512, .bf16⟩
  | .local _ .vmem, ⟨25, _⟩ => ⟨S256x512, .bf16⟩
  | .local _ .vmem, ⟨26, _⟩ => ⟨S128x512, .bf16⟩
  | .local _ .vmem, ⟨27, _⟩ => ⟨S128x512, .bf16⟩
  | .local _ .vmem, ⟨28, _⟩ => ⟨S256x512, .bf16⟩
  | .local _ .vmem, ⟨29, _⟩ => ⟨S128x512, .bf16⟩
  | .local _ .vmem, ⟨30, _⟩ => ⟨S128x512, .bf16⟩
  | .local _ .vmem, ⟨31, _⟩ => ⟨S256x512, .bf16⟩
  | .local _ .vmem, ⟨32, _⟩ => ⟨S128x512, .bf16⟩
  | .local _ .vmem, ⟨33, _⟩ => ⟨S128x512, .bf16⟩
  | .local _ .vmem, ⟨34, _⟩ => ⟨S256x512, .bf16⟩
  | .local _ .vmem, ⟨35, _⟩ => ⟨S128x512, .bf16⟩
  | .local _ .vmem, ⟨36, _⟩ => ⟨S128x512, .bf16⟩
  | .local _ .vmem, ⟨37, _⟩ => ⟨S256x512, .bf16⟩
  | .local _ .vmem, ⟨38, _⟩ => ⟨S128x512, .bf16⟩
  | .local _ .vmem, ⟨39, _⟩ => ⟨S128x512, .bf16⟩
  | .local _ .vmem, ⟨40, _⟩ => ⟨S256x512, .bf16⟩
  | .local _ .vmem, ⟨41, _⟩ => ⟨S128x512, .bf16⟩
  | .local _ .vmem, ⟨42, _⟩ => ⟨S128x512, .bf16⟩
  | .local _ .vmem, ⟨43, _⟩ => ⟨S256x512, .bf16⟩
  | .local _ .vmem, ⟨44, _⟩ => ⟨S128x512, .bf16⟩
  | .local _ .vmem, ⟨45, _⟩ => ⟨S128x512, .bf16⟩
  | .local _ .vmem, ⟨46, _⟩ => ⟨S256x512, .bf16⟩
  | .local _ .vmem, ⟨47, _⟩ => ⟨S128x512, .bf16⟩
  | .local _ .vmem, ⟨48, _⟩ => ⟨S128x512, .bf16⟩
  | .local _ .vmem, ⟨49, _⟩ => ⟨S256x512, .bf16⟩
  | .local _ .vmem, ⟨50, _⟩ => ⟨S128x512, .bf16⟩
  | .local _ .vmem, ⟨51, _⟩ => ⟨S128x512, .bf16⟩
  | .local _ .vmem, ⟨52, _⟩ => ⟨S256x512, .bf16⟩
  | .local _ .vmem, ⟨53, _⟩ => ⟨S128x512, .bf16⟩
  | .local _ .vmem, ⟨54, _⟩ => ⟨S128x512, .bf16⟩
  | .local _ .vmem, ⟨55, _⟩ => ⟨S256x512, .bf16⟩
  | .local _ .vmem, ⟨56, _⟩ => ⟨S128x512, .bf16⟩
  | .local _ .vmem, ⟨57, _⟩ => ⟨S128x512, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 1 → Bool
  | ⟨0, _⟩ => false
  | _ => false

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  (ofTc nBuf bufTy 1 93 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_scratch30 : Ref sig .tc := ⟨.vmem, 33, rfl⟩
abbrev cc0_scratch31 : Ref sig .tc := ⟨.vmem, 34, rfl⟩
abbrev cc0_scratch32 : Ref sig .tc := ⟨.vmem, 35, rfl⟩
abbrev cc0_scratch33 : Ref sig .tc := ⟨.vmem, 36, rfl⟩
abbrev cc0_scratch34 : Ref sig .tc := ⟨.vmem, 37, rfl⟩
abbrev cc0_scratch35 : Ref sig .tc := ⟨.vmem, 38, rfl⟩
abbrev cc0_scratch36 : Ref sig .tc := ⟨.vmem, 39, rfl⟩
abbrev cc0_scratch37 : Ref sig .tc := ⟨.vmem, 40, rfl⟩
abbrev cc0_scratch38 : Ref sig .tc := ⟨.vmem, 41, rfl⟩
abbrev cc0_scratch39 : Ref sig .tc := ⟨.vmem, 42, rfl⟩
abbrev cc0_scratch40 : Ref sig .tc := ⟨.vmem, 43, rfl⟩
abbrev cc0_scratch41 : Ref sig .tc := ⟨.vmem, 44, rfl⟩
abbrev cc0_scratch42 : Ref sig .tc := ⟨.vmem, 45, rfl⟩
abbrev cc0_scratch43 : Ref sig .tc := ⟨.vmem, 46, rfl⟩
abbrev cc0_scratch44 : Ref sig .tc := ⟨.vmem, 47, rfl⟩
abbrev cc0_scratch45 : Ref sig .tc := ⟨.vmem, 48, rfl⟩
abbrev cc0_scratch46 : Ref sig .tc := ⟨.vmem, 49, rfl⟩
abbrev cc0_scratch47 : Ref sig .tc := ⟨.vmem, 50, rfl⟩
abbrev cc0_scratch48 : Ref sig .tc := ⟨.vmem, 51, rfl⟩
abbrev cc0_scratch49 : Ref sig .tc := ⟨.vmem, 52, rfl⟩
abbrev cc0_scratch50 : Ref sig .tc := ⟨.vmem, 53, rfl⟩
abbrev cc0_scratch51 : Ref sig .tc := ⟨.vmem, 54, rfl⟩
abbrev cc0_scratch52 : Ref sig .tc := ⟨.vmem, 55, rfl⟩
abbrev cc0_scratch53 : Ref sig .tc := ⟨.vmem, 56, rfl⟩
abbrev cc0_scratch54 : Ref sig .tc := ⟨.vmem, 57, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_7 : BitVec 32 := 1#32
  let v14 : BitVec 32 := Scalar.muli v10 c1_i32_7
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_9 : BitVec 32 := 1#32
  let v16 : BitVec 32 := Scalar.muli v11 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_12 : BitVec 32 := 1#32
  let v18 : BitVec 32 := Scalar.muli v12 c1_i32_12
  let v19 : BitVec 32 := Scalar.addi c0_i32_13 v18
  v19.toNat
def k0_off1 (d0 : Dev nD) : Fin 2 → Nat :=
  let c0_i32_19 : BitVec 32 := 0#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v26 : BitVec 32 := Scalar.subi c1_i32_18 v5
  let c256_i32 : BitVec 32 := 256#32
  let v27 : BitVec 32 := Scalar.muli v26 c256_i32
  let v28 : BitVec 32 := Scalar.addi c0_i32_19 v27
  let v31 : Index := Scalar.indexCast v28
  let c0_22 : Index := 0#32
  ![v31.toNat, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_27 : BitVec 32 := 1#32
  let v39 : BitVec 32 := Scalar.muli v10 c1_i32_27
  let v40 : BitVec 32 := Scalar.addi c0_i32_28 v39
  v40.toNat
def k0_off2 (d0 : Dev nD) (c512_i32 : BitVec 32) (c1_i32_2 : BitVec 32) : Fin 2 → Nat :=
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v45 : BitVec 32 := Scalar.subi c1_i32_29 v7
  let c256_i32_30 : BitVec 32 := 256#32
  let v46 : BitVec 32 := Scalar.muli v45 c256_i32_30
  let v47 : BitVec 32 := Scalar.addi c512_i32 v46
  let v50 : Index := Scalar.indexCast v47
  let c0_33 : Index := 0#32
  ![v50.toNat, 0]
def k0_off2_at (r : Fin 2) : BitVec 32 × BitVec 32 :=
  if r.val < 1 then
    (512#32, 1#32)
  else
    (1024#32, 2#32)
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_39 : BitVec 32 := 1#32
  let v58 : BitVec 32 := Scalar.muli v11 c1_i32_39
  let v59 : BitVec 32 := Scalar.addi c0_i32_40 v58
  v59.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_51 : BitVec 32 := 1#32
  let v77 : BitVec 32 := Scalar.muli v12 c1_i32_51
  let v78 : BitVec 32 := Scalar.addi c0_i32_52 v77
  v78.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_63 : BitVec 32 := 1#32
  let v96 : BitVec 32 := Scalar.muli v10 c1_i32_63
  let v97 : BitVec 32 := Scalar.addi c0_i32_64 v96
  v97.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_75 : BitVec 32 := 1#32
  let v115 : BitVec 32 := Scalar.muli v11 c1_i32_75
  let v116 : BitVec 32 := Scalar.addi c0_i32_76 v115
  v116.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_87 : BitVec 32 := 1#32
  let v134 : BitVec 32 := Scalar.muli v12 c1_i32_87
  let v135 : BitVec 32 := Scalar.addi c0_i32_88 v134
  v135.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_99 : BitVec 32 := 1#32
  let v153 : BitVec 32 := Scalar.muli v10 c1_i32_99
  let v154 : BitVec 32 := Scalar.addi c0_i32_100 v153
  v154.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_111 : BitVec 32 := 1#32
  let v172 : BitVec 32 := Scalar.muli v11 c1_i32_111
  let v173 : BitVec 32 := Scalar.addi c0_i32_112 v172
  v173.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_123 : BitVec 32 := 1#32
  let v191 : BitVec 32 := Scalar.muli v12 c1_i32_123
  let v192 : BitVec 32 := Scalar.addi c0_i32_124 v191
  v192.toNat
def k0_off3 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_20 : BitVec 32 := 256#32
  let v29 : BitVec 32 := Scalar.muli v5 c256_i32_20
  let v30 : BitVec 32 := Scalar.addi c0_i32_21 v29
  let v197 : Index := Scalar.indexCast v30
  let c0_125 : Index := 0#32
  ![v197.toNat, 0]
def k0_off4 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_20 : BitVec 32 := 256#32
  let v29 : BitVec 32 := Scalar.muli v5 c256_i32_20
  let v30 : BitVec 32 := Scalar.addi c0_i32_21 v29
  let v201 : Index := Scalar.indexCast v30
  let c0_127 : Index := 0#32
  ![v201.toNat, 0]
def k0_off5 (d0 : Dev nD) (c512_i32_32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c256_i32_31 : BitVec 32 := 256#32
  let v48 : BitVec 32 := Scalar.muli v7 c256_i32_31
  let v49 : BitVec 32 := Scalar.addi c512_i32_32 v48
  let v205 : Index := Scalar.indexCast v49
  let c0_128 : Index := 0#32
  ![v205.toNat, 0]
def k0_off5_at (r : Fin 2) : BitVec 32 × BitVec 32 :=
  if r.val < 1 then
    (512#32, 1#32)
  else
    (1024#32, 2#32)
def k0_off6 (d0 : Dev nD) (c512_i32_32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c256_i32_31 : BitVec 32 := 256#32
  let v48 : BitVec 32 := Scalar.muli v7 c256_i32_31
  let v49 : BitVec 32 := Scalar.addi c512_i32_32 v48
  let v209 : Index := Scalar.indexCast v49
  let c0_130 : Index := 0#32
  ![v209.toNat, 0]
def k0_off6_at (r : Fin 2) : BitVec 32 × BitVec 32 :=
  if r.val < 1 then
    (512#32, 1#32)
  else
    (1024#32, 2#32)
def k0_off7 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v86 : BitVec 32 := Scalar.muli v5 c256_i32_56
  let v87 : BitVec 32 := Scalar.addi c0_i32_57 v86
  let v225 : Index := Scalar.indexCast v87
  let c512_136 : Index := 512#32
  ![v225.toNat, 512]
def k0_off8 (d0 : Dev nD) (c512_i32_69 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c256_i32_68 : BitVec 32 := 256#32
  let v105 : BitVec 32 := Scalar.muli v7 c256_i32_68
  let v106 : BitVec 32 := Scalar.addi c512_i32_69 v105
  let v233 : Index := Scalar.indexCast v106
  let c512_139 : Index := 512#32
  ![v233.toNat, 512]
def k0_off8_at (r : Fin 2) : BitVec 32 × BitVec 32 :=
  if r.val < 1 then
    (512#32, 1#32)
  else
    (1024#32, 2#32)
def k0_off9 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_92 : BitVec 32 := 256#32
  let v143 : BitVec 32 := Scalar.muli v5 c256_i32_92
  let v144 : BitVec 32 := Scalar.addi c0_i32_93 v143
  let v249 : Index := Scalar.indexCast v144
  let c1024_145 : Index := 1024#32
  ![v249.toNat, 1024]
def k0_off10 (d0 : Dev nD) (c512_i32_105 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c256_i32_104 : BitVec 32 := 256#32
  let v162 : BitVec 32 := Scalar.muli v7 c256_i32_104
  let v163 : BitVec 32 := Scalar.addi c512_i32_105 v162
  let v257 : Index := Scalar.indexCast v163
  let c1024_148 : Index := 1024#32
  ![v257.toNat, 1024]
def k0_off10_at (r : Fin 2) : BitVec 32 × BitVec 32 :=
  if r.val < 1 then
    (512#32, 1#32)
  else
    (1024#32, 2#32)
def k0_off11 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_20 : BitVec 32 := 256#32
  let v29 : BitVec 32 := Scalar.muli v5 c256_i32_20
  let v30 : BitVec 32 := Scalar.addi c0_i32_21 v29
  let c1_i32_159 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v275 : BitVec 32 := Scalar.subi c1_i32_159 v7
  let c128_i32 : BitVec 32 := 128#32
  let v276 : BitVec 32 := Scalar.muli v275 c128_i32
  let v277 : BitVec 32 := Scalar.addi v30 v276
  let v278 : Index := Scalar.indexCast v277
  let c0_160 : Index := 0#32
  ![v278.toNat, 0]
def k0_off12 (d0 : Dev nD) (c1_i32_2 : BitVec 32) : Fin 2 → Nat :=
  let c1_i32_161 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v280 : BitVec 32 := Scalar.subi c1_i32_161 v7
  let c128_i32_162 : BitVec 32 := 128#32
  let v281 : BitVec 32 := Scalar.muli v280 c128_i32_162
  let v282 : Index := Scalar.indexCast v281
  let c0_163 : Index := 0#32
  ![v282.toNat, 0]
def k0_dev13 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_168 : BitVec 32 := 1#32
  let v290 : BitVec 32 := Scalar.muli v11 c1_i32_168
  let v291 : BitVec 32 := Scalar.addi c0_i32_169 v290
  v291.toNat
def k0_off13 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_31 : BitVec 32 := 256#32
  let v48 : BitVec 32 := Scalar.muli v7 c256_i32_31
  let v49 : BitVec 32 := Scalar.addi c512_i32_32 v48
  let c1_i32_177 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v302 : BitVec 32 := Scalar.subi c1_i32_177 v9
  let c128_i32_178 : BitVec 32 := 128#32
  let v303 : BitVec 32 := Scalar.muli v302 c128_i32_178
  let v304 : BitVec 32 := Scalar.addi v49 v303
  let v305 : Index := Scalar.indexCast v304
  let c0_179 : Index := 0#32
  ![v305.toNat, 0]
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_187 : BitVec 32 := 1#32
  let v317 : BitVec 32 := Scalar.muli v12 c1_i32_187
  let v318 : BitVec 32 := Scalar.addi c0_i32_188 v317
  v318.toNat
def k0_off14 (d0 : Dev nD) : Fin 2 → Nat :=
  let c1024_i32_44 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_43 : BitVec 32 := 256#32
  let v67 : BitVec 32 := Scalar.muli v9 c256_i32_43
  let v68 : BitVec 32 := Scalar.addi c1024_i32_44 v67
  let c1_i32_196 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v329 : BitVec 32 := Scalar.subi c1_i32_196 v5
  let c128_i32_197 : BitVec 32 := 128#32
  let v330 : BitVec 32 := Scalar.muli v329 c128_i32_197
  let v331 : BitVec 32 := Scalar.addi v68 v330
  let v332 : Index := Scalar.indexCast v331
  let c0_198 : Index := 0#32
  ![v332.toNat, 0]
def k0_off15 (d0 : Dev nD) : Fin 2 → Nat :=
  let c1_i32_199 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v334 : BitVec 32 := Scalar.subi c1_i32_199 v5
  let c128_i32_200 : BitVec 32 := 128#32
  let v335 : BitVec 32 := Scalar.muli v334 c128_i32_200
  let v336 : Index := Scalar.indexCast v335
  let c0_201 : Index := 0#32
  ![v336.toNat, 0]
def k0_dev15 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_205 : BitVec 32 := 1#32
  let v344 : BitVec 32 := Scalar.muli v10 c1_i32_205
  let v345 : BitVec 32 := Scalar.addi c0_i32_206 v344
  v345.toNat
def k0_off16 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_20 : BitVec 32 := 256#32
  let v29 : BitVec 32 := Scalar.muli v5 c256_i32_20
  let v30 : BitVec 32 := Scalar.addi c0_i32_21 v29
  let c1_i32_2 : BitVec 32 := 1#32
  let v6 : BitVec 32 := Scalar.shrsi v2 c1_i32_2
  let c1_i32_3 : BitVec 32 := 1#32
  let v7 : BitVec 32 := Scalar.andi v6 c1_i32_3
  let c128_i32_207 : BitVec 32 := 128#32
  let v350 : BitVec 32 := Scalar.muli v7 c128_i32_207
  let v351 : BitVec 32 := Scalar.addi v30 v350
  let v352 : Index := Scalar.indexCast v351
  let c0_208 : Index := 0#32
  ![v352.toNat, 0]
def k0_off17 (d0 : Dev nD) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c128_i32_209 : BitVec 32 := 128#32
  let v354 : BitVec 32 := Scalar.muli v7 c128_i32_209
  let v355 : Index := Scalar.indexCast v354
  let c0_210 : Index := 0#32
  ![v355.toNat, 0]
def k0_off18 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_31 : BitVec 32 := 256#32
  let v48 : BitVec 32 := Scalar.muli v7 c256_i32_31
  let v49 : BitVec 32 := Scalar.addi c512_i32_32 v48
  let c2_i32 : BitVec 32 := 2#32
  let v8 : BitVec 32 := Scalar.shrsi v2 c2_i32
  let c1_i32_4 : BitVec 32 := 1#32
  let v9 : BitVec 32 := Scalar.andi v8 c1_i32_4
  let c128_i32_212 : BitVec 32 := 128#32
  let v363 : BitVec 32 := Scalar.muli v9 c128_i32_212
  let v364 : BitVec 32 := Scalar.addi v49 v363
  let v365 : Index := Scalar.indexCast v364
  let c0_213 : Index := 0#32
  ![v365.toNat, 0]
def k0_off19 (d0 : Dev nD) : Fin 2 → Nat :=
  let c1024_i32_44 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_43 : BitVec 32 := 256#32
  let v67 : BitVec 32 := Scalar.muli v9 c256_i32_43
  let v68 : BitVec 32 := Scalar.addi c1024_i32_44 v67
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_217 : BitVec 32 := 128#32
  let v376 : BitVec 32 := Scalar.muli v5 c128_i32_217
  let v377 : BitVec 32 := Scalar.addi v68 v376
  let v378 : Index := Scalar.indexCast v377
  let c0_218 : Index := 0#32
  ![v378.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_219 : BitVec 32 := 128#32
  let v380 : BitVec 32 := Scalar.muli v5 c128_i32_219
  let v381 : Index := Scalar.indexCast v380
  let c0_220 : Index := 0#32
  ![v381.toNat, 0]
def k0_off21 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v86 : BitVec 32 := Scalar.muli v5 c256_i32_56
  let v87 : BitVec 32 := Scalar.addi c0_i32_57 v86
  let c1_i32_229 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v395 : BitVec 32 := Scalar.subi c1_i32_229 v7
  let c128_i32_230 : BitVec 32 := 128#32
  let v396 : BitVec 32 := Scalar.muli v395 c128_i32_230
  let v397 : BitVec 32 := Scalar.addi v87 v396
  let v398 : Index := Scalar.indexCast v397
  let c512_231 : Index := 512#32
  ![v398.toNat, 512]
def k0_dev16 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_238 : BitVec 32 := 1#32
  let v410 : BitVec 32 := Scalar.muli v11 c1_i32_238
  let v411 : BitVec 32 := Scalar.addi c0_i32_239 v410
  v411.toNat
def k0_off22 (d0 : Dev nD) : Fin 2 → Nat :=
  let c512_i32_69 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_68 : BitVec 32 := 256#32
  let v105 : BitVec 32 := Scalar.muli v7 c256_i32_68
  let v106 : BitVec 32 := Scalar.addi c512_i32_69 v105
  let c1_i32_247 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v422 : BitVec 32 := Scalar.subi c1_i32_247 v9
  let c128_i32_248 : BitVec 32 := 128#32
  let v423 : BitVec 32 := Scalar.muli v422 c128_i32_248
  let v424 : BitVec 32 := Scalar.addi v106 v423
  let v425 : Index := Scalar.indexCast v424
  let c512_249 : Index := 512#32
  ![v425.toNat, 512]
def k0_dev17 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_256 : BitVec 32 := 1#32
  let v437 : BitVec 32 := Scalar.muli v12 c1_i32_256
  let v438 : BitVec 32 := Scalar.addi c0_i32_257 v437
  v438.toNat
def k0_off23 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_80 : BitVec 32 := 256#32
  let v124 : BitVec 32 := Scalar.muli v9 c256_i32_80
  let v125 : BitVec 32 := Scalar.addi c1024_i32_81 v124
  let c1_i32_265 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v449 : BitVec 32 := Scalar.subi c1_i32_265 v5
  let c128_i32_266 : BitVec 32 := 128#32
  let v450 : BitVec 32 := Scalar.muli v449 c128_i32_266
  let v451 : BitVec 32 := Scalar.addi v125 v450
  let v452 : Index := Scalar.indexCast v451
  let c512_267 : Index := 512#32
  ![v452.toNat, 512]
def k0_dev18 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_274 : BitVec 32 := 1#32
  let v464 : BitVec 32 := Scalar.muli v10 c1_i32_274
  let v465 : BitVec 32 := Scalar.addi c0_i32_275 v464
  v465.toNat
def k0_off24 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v86 : BitVec 32 := Scalar.muli v5 c256_i32_56
  let v87 : BitVec 32 := Scalar.addi c0_i32_57 v86
  let c1_i32_2 : BitVec 32 := 1#32
  let v6 : BitVec 32 := Scalar.shrsi v2 c1_i32_2
  let c1_i32_3 : BitVec 32 := 1#32
  let v7 : BitVec 32 := Scalar.andi v6 c1_i32_3
  let c128_i32_276 : BitVec 32 := 128#32
  let v470 : BitVec 32 := Scalar.muli v7 c128_i32_276
  let v471 : BitVec 32 := Scalar.addi v87 v470
  let v472 : Index := Scalar.indexCast v471
  let c512_277 : Index := 512#32
  ![v472.toNat, 512]
def k0_off25 (d0 : Dev nD) : Fin 2 → Nat :=
  let c512_i32_69 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_68 : BitVec 32 := 256#32
  let v105 : BitVec 32 := Scalar.muli v7 c256_i32_68
  let v106 : BitVec 32 := Scalar.addi c512_i32_69 v105
  let c2_i32 : BitVec 32 := 2#32
  let v8 : BitVec 32 := Scalar.shrsi v2 c2_i32
  let c1_i32_4 : BitVec 32 := 1#32
  let v9 : BitVec 32 := Scalar.andi v8 c1_i32_4
  let c128_i32_281 : BitVec 32 := 128#32
  let v483 : BitVec 32 := Scalar.muli v9 c128_i32_281
  let v484 : BitVec 32 := Scalar.addi v106 v483
  let v485 : Index := Scalar.indexCast v484
  let c512_282 : Index := 512#32
  ![v485.toNat, 512]
def k0_off26 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_80 : BitVec 32 := 256#32
  let v124 : BitVec 32 := Scalar.muli v9 c256_i32_80
  let v125 : BitVec 32 := Scalar.addi c1024_i32_81 v124
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_286 : BitVec 32 := 128#32
  let v496 : BitVec 32 := Scalar.muli v5 c128_i32_286
  let v497 : BitVec 32 := Scalar.addi v125 v496
  let v498 : Index := Scalar.indexCast v497
  let c512_287 : Index := 512#32
  ![v498.toNat, 512]
def k0_off27 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_92 : BitVec 32 := 256#32
  let v143 : BitVec 32 := Scalar.muli v5 c256_i32_92
  let v144 : BitVec 32 := Scalar.addi c0_i32_93 v143
  let c1_i32_298 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v515 : BitVec 32 := Scalar.subi c1_i32_298 v7
  let c128_i32_299 : BitVec 32 := 128#32
  let v516 : BitVec 32 := Scalar.muli v515 c128_i32_299
  let v517 : BitVec 32 := Scalar.addi v144 v516
  let v518 : Index := Scalar.indexCast v517
  let c1024_300 : Index := 1024#32
  ![v518.toNat, 1024]
def k0_dev19 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_307 : BitVec 32 := 1#32
  let v530 : BitVec 32 := Scalar.muli v11 c1_i32_307
  let v531 : BitVec 32 := Scalar.addi c0_i32_308 v530
  v531.toNat
def k0_off28 (d0 : Dev nD) : Fin 2 → Nat :=
  let c512_i32_105 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_104 : BitVec 32 := 256#32
  let v162 : BitVec 32 := Scalar.muli v7 c256_i32_104
  let v163 : BitVec 32 := Scalar.addi c512_i32_105 v162
  let c1_i32_316 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v542 : BitVec 32 := Scalar.subi c1_i32_316 v9
  let c128_i32_317 : BitVec 32 := 128#32
  let v543 : BitVec 32 := Scalar.muli v542 c128_i32_317
  let v544 : BitVec 32 := Scalar.addi v163 v543
  let v545 : Index := Scalar.indexCast v544
  let c1024_318 : Index := 1024#32
  ![v545.toNat, 1024]
def k0_dev20 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_325 : BitVec 32 := 1#32
  let v557 : BitVec 32 := Scalar.muli v12 c1_i32_325
  let v558 : BitVec 32 := Scalar.addi c0_i32_326 v557
  v558.toNat
def k0_off29 (d0 : Dev nD) : Fin 2 → Nat :=
  let c1024_i32_117 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_116 : BitVec 32 := 256#32
  let v181 : BitVec 32 := Scalar.muli v9 c256_i32_116
  let v182 : BitVec 32 := Scalar.addi c1024_i32_117 v181
  let c1_i32_334 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v569 : BitVec 32 := Scalar.subi c1_i32_334 v5
  let c128_i32_335 : BitVec 32 := 128#32
  let v570 : BitVec 32 := Scalar.muli v569 c128_i32_335
  let v571 : BitVec 32 := Scalar.addi v182 v570
  let v572 : Index := Scalar.indexCast v571
  let c1024_336 : Index := 1024#32
  ![v572.toNat, 1024]
def k0_dev21 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_343 : BitVec 32 := 1#32
  let v584 : BitVec 32 := Scalar.muli v10 c1_i32_343
  let v585 : BitVec 32 := Scalar.addi c0_i32_344 v584
  v585.toNat
def k0_off30 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_92 : BitVec 32 := 256#32
  let v143 : BitVec 32 := Scalar.muli v5 c256_i32_92
  let v144 : BitVec 32 := Scalar.addi c0_i32_93 v143
  let c1_i32_2 : BitVec 32 := 1#32
  let v6 : BitVec 32 := Scalar.shrsi v2 c1_i32_2
  let c1_i32_3 : BitVec 32 := 1#32
  let v7 : BitVec 32 := Scalar.andi v6 c1_i32_3
  let c128_i32_345 : BitVec 32 := 128#32
  let v590 : BitVec 32 := Scalar.muli v7 c128_i32_345
  let v591 : BitVec 32 := Scalar.addi v144 v590
  let v592 : Index := Scalar.indexCast v591
  let c1024_346 : Index := 1024#32
  ![v592.toNat, 1024]
def k0_off31 (d0 : Dev nD) : Fin 2 → Nat :=
  let c512_i32_105 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_104 : BitVec 32 := 256#32
  let v162 : BitVec 32 := Scalar.muli v7 c256_i32_104
  let v163 : BitVec 32 := Scalar.addi c512_i32_105 v162
  let c2_i32 : BitVec 32 := 2#32
  let v8 : BitVec 32 := Scalar.shrsi v2 c2_i32
  let c1_i32_4 : BitVec 32 := 1#32
  let v9 : BitVec 32 := Scalar.andi v8 c1_i32_4
  let c128_i32_350 : BitVec 32 := 128#32
  let v603 : BitVec 32 := Scalar.muli v9 c128_i32_350
  let v604 : BitVec 32 := Scalar.addi v163 v603
  let v605 : Index := Scalar.indexCast v604
  let c1024_351 : Index := 1024#32
  ![v605.toNat, 1024]
def k0_off32 (d0 : Dev nD) : Fin 2 → Nat :=
  let c1024_i32_117 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_116 : BitVec 32 := 256#32
  let v181 : BitVec 32 := Scalar.muli v9 c256_i32_116
  let v182 : BitVec 32 := Scalar.addi c1024_i32_117 v181
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_355 : BitVec 32 := 128#32
  let v616 : BitVec 32 := Scalar.muli v5 c128_i32_355
  let v617 : BitVec 32 := Scalar.addi v182 v616
  let v618 : Index := Scalar.indexCast v617
  let c1024_356 : Index := 1024#32
  ![v618.toNat, 1024]
def k0_dev22 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_373 : BitVec 32 := 1#32
  let v644 : BitVec 32 := Scalar.muli v12 c1_i32_373
  let v645 : BitVec 32 := Scalar.addi c0_i32_374 v644
  v645.toNat
def k0_dev23 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_388 : BitVec 32 := 1#32
  let v665 : BitVec 32 := Scalar.muli v10 c1_i32_388
  let v666 : BitVec 32 := Scalar.addi c0_i32_389 v665
  v666.toNat
def k0_dev24 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_404 : BitVec 32 := 1#32
  let v686 : BitVec 32 := Scalar.muli v11 c1_i32_404
  let v687 : BitVec 32 := Scalar.addi c0_i32_405 v686
  v687.toNat
def k0_dev25 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_431 : BitVec 32 := 1#32
  let v734 : BitVec 32 := Scalar.muli v12 c1_i32_431
  let v735 : BitVec 32 := Scalar.addi c0_i32_432 v734
  v735.toNat
def k0_dev26 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_446 : BitVec 32 := 1#32
  let v755 : BitVec 32 := Scalar.muli v10 c1_i32_446
  let v756 : BitVec 32 := Scalar.addi c0_i32_447 v755
  v756.toNat
def k0_dev27 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_461 : BitVec 32 := 1#32
  let v776 : BitVec 32 := Scalar.muli v11 c1_i32_461
  let v777 : BitVec 32 := Scalar.addi c0_i32_462 v776
  v777.toNat
def k0_dev28 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_488 : BitVec 32 := 1#32
  let v824 : BitVec 32 := Scalar.muli v12 c1_i32_488
  let v825 : BitVec 32 := Scalar.addi c0_i32_489 v824
  v825.toNat
def k0_dev29 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_503 : BitVec 32 := 1#32
  let v845 : BitVec 32 := Scalar.muli v10 c1_i32_503
  let v846 : BitVec 32 := Scalar.addi c0_i32_504 v845
  v846.toNat
def k0_dev30 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_518 : BitVec 32 := 1#32
  let v866 : BitVec 32 := Scalar.muli v11 c1_i32_518
  let v867 : BitVec 32 := Scalar.addi c0_i32_519 v866
  v867.toNat
def k0_off33 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_20 : BitVec 32 := 256#32
  let v29 : BitVec 32 := Scalar.muli v5 c256_i32_20
  let v30 : BitVec 32 := Scalar.addi c0_i32_21 v29
  let c1_i32_2 : BitVec 32 := 1#32
  let v6 : BitVec 32 := Scalar.shrsi v2 c1_i32_2
  let c1_i32_3 : BitVec 32 := 1#32
  let v7 : BitVec 32 := Scalar.andi v6 c1_i32_3
  let c128_i32_207 : BitVec 32 := 128#32
  let v350 : BitVec 32 := Scalar.muli v7 c128_i32_207
  let v351 : BitVec 32 := Scalar.addi v30 v350
  let c0_i32_548 : BitVec 32 := 0#32
  ![v351.toNat, 0]
def k0_dev31 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_546 : BitVec 32 := 1#32
  let v919 : BitVec 32 := Scalar.muli v11 c1_i32_546
  let v920 : BitVec 32 := Scalar.addi c0_i32_547 v919
  v920.toNat
def k0_off34 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_31 : BitVec 32 := 256#32
  let v48 : BitVec 32 := Scalar.muli v7 c256_i32_31
  let v49 : BitVec 32 := Scalar.addi c512_i32_32 v48
  let c2_i32 : BitVec 32 := 2#32
  let v8 : BitVec 32 := Scalar.shrsi v2 c2_i32
  let c1_i32_4 : BitVec 32 := 1#32
  let v9 : BitVec 32 := Scalar.andi v8 c1_i32_4
  let c128_i32_212 : BitVec 32 := 128#32
  let v363 : BitVec 32 := Scalar.muli v9 c128_i32_212
  let v364 : BitVec 32 := Scalar.addi v49 v363
  let c0_i32_566 : BitVec 32 := 0#32
  ![v364.toNat, 0]
def k0_dev32 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_564 : BitVec 32 := 1#32
  let v947 : BitVec 32 := Scalar.muli v12 c1_i32_564
  let v948 : BitVec 32 := Scalar.addi c0_i32_565 v947
  v948.toNat
def k0_off35 (d0 : Dev nD) : Fin 2 → Nat :=
  let c1024_i32_44 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_43 : BitVec 32 := 256#32
  let v67 : BitVec 32 := Scalar.muli v9 c256_i32_43
  let v68 : BitVec 32 := Scalar.addi c1024_i32_44 v67
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_217 : BitVec 32 := 128#32
  let v376 : BitVec 32 := Scalar.muli v5 c128_i32_217
  let v377 : BitVec 32 := Scalar.addi v68 v376
  let c0_i32_584 : BitVec 32 := 0#32
  ![v377.toNat, 0]
def k0_dev33 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_582 : BitVec 32 := 1#32
  let v975 : BitVec 32 := Scalar.muli v10 c1_i32_582
  let v976 : BitVec 32 := Scalar.addi c0_i32_583 v975
  v976.toNat
def k0_off36 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v86 : BitVec 32 := Scalar.muli v5 c256_i32_56
  let v87 : BitVec 32 := Scalar.addi c0_i32_57 v86
  let c1_i32_2 : BitVec 32 := 1#32
  let v6 : BitVec 32 := Scalar.shrsi v2 c1_i32_2
  let c1_i32_3 : BitVec 32 := 1#32
  let v7 : BitVec 32 := Scalar.andi v6 c1_i32_3
  let c128_i32_276 : BitVec 32 := 128#32
  let v470 : BitVec 32 := Scalar.muli v7 c128_i32_276
  let v471 : BitVec 32 := Scalar.addi v87 v470
  let c512_i32_602 : BitVec 32 := 512#32
  ![v471.toNat, 512]
def k0_dev34 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_600 : BitVec 32 := 1#32
  let v1003 : BitVec 32 := Scalar.muli v11 c1_i32_600
  let v1004 : BitVec 32 := Scalar.addi c0_i32_601 v1003
  v1004.toNat
def k0_off37 (d0 : Dev nD) : Fin 2 → Nat :=
  let c512_i32_69 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_68 : BitVec 32 := 256#32
  let v105 : BitVec 32 := Scalar.muli v7 c256_i32_68
  let v106 : BitVec 32 := Scalar.addi c512_i32_69 v105
  let c2_i32 : BitVec 32 := 2#32
  let v8 : BitVec 32 := Scalar.shrsi v2 c2_i32
  let c1_i32_4 : BitVec 32 := 1#32
  let v9 : BitVec 32 := Scalar.andi v8 c1_i32_4
  let c128_i32_281 : BitVec 32 := 128#32
  let v483 : BitVec 32 := Scalar.muli v9 c128_i32_281
  let v484 : BitVec 32 := Scalar.addi v106 v483
  let c512_i32_620 : BitVec 32 := 512#32
  ![v484.toNat, 512]
def k0_dev35 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_618 : BitVec 32 := 1#32
  let v1031 : BitVec 32 := Scalar.muli v12 c1_i32_618
  let v1032 : BitVec 32 := Scalar.addi c0_i32_619 v1031
  v1032.toNat
def k0_off38 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_80 : BitVec 32 := 256#32
  let v124 : BitVec 32 := Scalar.muli v9 c256_i32_80
  let v125 : BitVec 32 := Scalar.addi c1024_i32_81 v124
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_286 : BitVec 32 := 128#32
  let v496 : BitVec 32 := Scalar.muli v5 c128_i32_286
  let v497 : BitVec 32 := Scalar.addi v125 v496
  let c512_i32_638 : BitVec 32 := 512#32
  ![v497.toNat, 512]
def k0_dev36 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_636 : BitVec 32 := 1#32
  let v1059 : BitVec 32 := Scalar.muli v10 c1_i32_636
  let v1060 : BitVec 32 := Scalar.addi c0_i32_637 v1059
  v1060.toNat
def k0_off39 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_92 : BitVec 32 := 256#32
  let v143 : BitVec 32 := Scalar.muli v5 c256_i32_92
  let v144 : BitVec 32 := Scalar.addi c0_i32_93 v143
  let c1_i32_2 : BitVec 32 := 1#32
  let v6 : BitVec 32 := Scalar.shrsi v2 c1_i32_2
  let c1_i32_3 : BitVec 32 := 1#32
  let v7 : BitVec 32 := Scalar.andi v6 c1_i32_3
  let c128_i32_345 : BitVec 32 := 128#32
  let v590 : BitVec 32 := Scalar.muli v7 c128_i32_345
  let v591 : BitVec 32 := Scalar.addi v144 v590
  let c1024_i32_656 : BitVec 32 := 1024#32
  ![v591.toNat, 1024]
def k0_dev37 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_654 : BitVec 32 := 1#32
  let v1087 : BitVec 32 := Scalar.muli v11 c1_i32_654
  let v1088 : BitVec 32 := Scalar.addi c0_i32_655 v1087
  v1088.toNat
def k0_off40 (d0 : Dev nD) : Fin 2 → Nat :=
  let c512_i32_105 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_104 : BitVec 32 := 256#32
  let v162 : BitVec 32 := Scalar.muli v7 c256_i32_104
  let v163 : BitVec 32 := Scalar.addi c512_i32_105 v162
  let c2_i32 : BitVec 32 := 2#32
  let v8 : BitVec 32 := Scalar.shrsi v2 c2_i32
  let c1_i32_4 : BitVec 32 := 1#32
  let v9 : BitVec 32 := Scalar.andi v8 c1_i32_4
  let c128_i32_350 : BitVec 32 := 128#32
  let v603 : BitVec 32 := Scalar.muli v9 c128_i32_350
  let v604 : BitVec 32 := Scalar.addi v163 v603
  let c1024_i32_674 : BitVec 32 := 1024#32
  ![v604.toNat, 1024]
def k0_dev38 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_672 : BitVec 32 := 1#32
  let v1115 : BitVec 32 := Scalar.muli v12 c1_i32_672
  let v1116 : BitVec 32 := Scalar.addi c0_i32_673 v1115
  v1116.toNat
def k0_off41 (d0 : Dev nD) : Fin 2 → Nat :=
  let c1024_i32_117 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_116 : BitVec 32 := 256#32
  let v181 : BitVec 32 := Scalar.muli v9 c256_i32_116
  let v182 : BitVec 32 := Scalar.addi c1024_i32_117 v181
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_355 : BitVec 32 := 128#32
  let v616 : BitVec 32 := Scalar.muli v5 c128_i32_355
  let v617 : BitVec 32 := Scalar.addi v182 v616
  let c1024_i32_692 : BitVec 32 := 1024#32
  ![v617.toNat, 1024]
def k0_dev39 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_690 : BitVec 32 := 1#32
  let v1143 : BitVec 32 := Scalar.muli v10 c1_i32_690
  let v1144 : BitVec 32 := Scalar.addi c0_i32_691 v1143
  v1144.toNat
def k0_off42 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_20 : BitVec 32 := 256#32
  let v29 : BitVec 32 := Scalar.muli v5 c256_i32_20
  let v30 : BitVec 32 := Scalar.addi c0_i32_21 v29
  let c1_i32_2 : BitVec 32 := 1#32
  let v6 : BitVec 32 := Scalar.shrsi v2 c1_i32_2
  let c1_i32_3 : BitVec 32 := 1#32
  let v7 : BitVec 32 := Scalar.andi v6 c1_i32_3
  let c128_i32_207 : BitVec 32 := 128#32
  let v350 : BitVec 32 := Scalar.muli v7 c128_i32_207
  let v351 : BitVec 32 := Scalar.addi v30 v350
  let c128_i32_705 : BitVec 32 := 128#32
  let v1161 : BitVec 32 := Scalar.muli v7 c128_i32_705
  let v1162 : BitVec 32 := Scalar.subi v351 v1161
  let c0_i32_709 : BitVec 32 := 0#32
  ![v1162.toNat, 0]
def k0_dev40 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_707 : BitVec 32 := 1#32
  let v1163 : BitVec 32 := Scalar.muli v10 c1_i32_707
  let v1164 : BitVec 32 := Scalar.addi c0_i32_708 v1163
  v1164.toNat
def k0_off43 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_31 : BitVec 32 := 256#32
  let v48 : BitVec 32 := Scalar.muli v7 c256_i32_31
  let v49 : BitVec 32 := Scalar.addi c512_i32_32 v48
  let c2_i32 : BitVec 32 := 2#32
  let v8 : BitVec 32 := Scalar.shrsi v2 c2_i32
  let c1_i32_4 : BitVec 32 := 1#32
  let v9 : BitVec 32 := Scalar.andi v8 c1_i32_4
  let c128_i32_212 : BitVec 32 := 128#32
  let v363 : BitVec 32 := Scalar.muli v9 c128_i32_212
  let v364 : BitVec 32 := Scalar.addi v49 v363
  let c128_i32_722 : BitVec 32 := 128#32
  let v1181 : BitVec 32 := Scalar.muli v9 c128_i32_722
  let v1182 : BitVec 32 := Scalar.subi v364 v1181
  let c0_i32_726 : BitVec 32 := 0#32
  ![v1182.toNat, 0]
def k0_dev41 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_724 : BitVec 32 := 1#32
  let v1183 : BitVec 32 := Scalar.muli v11 c1_i32_724
  let v1184 : BitVec 32 := Scalar.addi c0_i32_725 v1183
  v1184.toNat
def k0_off44 (d0 : Dev nD) : Fin 2 → Nat :=
  let c1024_i32_44 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_43 : BitVec 32 := 256#32
  let v67 : BitVec 32 := Scalar.muli v9 c256_i32_43
  let v68 : BitVec 32 := Scalar.addi c1024_i32_44 v67
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_217 : BitVec 32 := 128#32
  let v376 : BitVec 32 := Scalar.muli v5 c128_i32_217
  let v377 : BitVec 32 := Scalar.addi v68 v376
  let c128_i32_739 : BitVec 32 := 128#32
  let v1201 : BitVec 32 := Scalar.muli v5 c128_i32_739
  let v1202 : BitVec 32 := Scalar.subi v377 v1201
  let c0_i32_743 : BitVec 32 := 0#32
  ![v1202.toNat, 0]
def k0_dev42 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_741 : BitVec 32 := 1#32
  let v1203 : BitVec 32 := Scalar.muli v12 c1_i32_741
  let v1204 : BitVec 32 := Scalar.addi c0_i32_742 v1203
  v1204.toNat
def k0_off45 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v86 : BitVec 32 := Scalar.muli v5 c256_i32_56
  let v87 : BitVec 32 := Scalar.addi c0_i32_57 v86
  let c1_i32_2 : BitVec 32 := 1#32
  let v6 : BitVec 32 := Scalar.shrsi v2 c1_i32_2
  let c1_i32_3 : BitVec 32 := 1#32
  let v7 : BitVec 32 := Scalar.andi v6 c1_i32_3
  let c128_i32_276 : BitVec 32 := 128#32
  let v470 : BitVec 32 := Scalar.muli v7 c128_i32_276
  let v471 : BitVec 32 := Scalar.addi v87 v470
  let c128_i32_756 : BitVec 32 := 128#32
  let v1221 : BitVec 32 := Scalar.muli v7 c128_i32_756
  let v1222 : BitVec 32 := Scalar.subi v471 v1221
  let c512_i32_760 : BitVec 32 := 512#32
  ![v1222.toNat, 512]
def k0_dev43 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_758 : BitVec 32 := 1#32
  let v1223 : BitVec 32 := Scalar.muli v10 c1_i32_758
  let v1224 : BitVec 32 := Scalar.addi c0_i32_759 v1223
  v1224.toNat
def k0_off46 (d0 : Dev nD) : Fin 2 → Nat :=
  let c512_i32_69 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_68 : BitVec 32 := 256#32
  let v105 : BitVec 32 := Scalar.muli v7 c256_i32_68
  let v106 : BitVec 32 := Scalar.addi c512_i32_69 v105
  let c2_i32 : BitVec 32 := 2#32
  let v8 : BitVec 32 := Scalar.shrsi v2 c2_i32
  let c1_i32_4 : BitVec 32 := 1#32
  let v9 : BitVec 32 := Scalar.andi v8 c1_i32_4
  let c128_i32_281 : BitVec 32 := 128#32
  let v483 : BitVec 32 := Scalar.muli v9 c128_i32_281
  let v484 : BitVec 32 := Scalar.addi v106 v483
  let c128_i32_773 : BitVec 32 := 128#32
  let v1241 : BitVec 32 := Scalar.muli v9 c128_i32_773
  let v1242 : BitVec 32 := Scalar.subi v484 v1241
  let c512_i32_777 : BitVec 32 := 512#32
  ![v1242.toNat, 512]
def k0_dev44 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_775 : BitVec 32 := 1#32
  let v1243 : BitVec 32 := Scalar.muli v11 c1_i32_775
  let v1244 : BitVec 32 := Scalar.addi c0_i32_776 v1243
  v1244.toNat
def k0_off47 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_80 : BitVec 32 := 256#32
  let v124 : BitVec 32 := Scalar.muli v9 c256_i32_80
  let v125 : BitVec 32 := Scalar.addi c1024_i32_81 v124
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_286 : BitVec 32 := 128#32
  let v496 : BitVec 32 := Scalar.muli v5 c128_i32_286
  let v497 : BitVec 32 := Scalar.addi v125 v496
  let c128_i32_790 : BitVec 32 := 128#32
  let v1261 : BitVec 32 := Scalar.muli v5 c128_i32_790
  let v1262 : BitVec 32 := Scalar.subi v497 v1261
  let c512_i32_794 : BitVec 32 := 512#32
  ![v1262.toNat, 512]
def k0_dev45 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_792 : BitVec 32 := 1#32
  let v1263 : BitVec 32 := Scalar.muli v12 c1_i32_792
  let v1264 : BitVec 32 := Scalar.addi c0_i32_793 v1263
  v1264.toNat
def k0_off48 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_92 : BitVec 32 := 256#32
  let v143 : BitVec 32 := Scalar.muli v5 c256_i32_92
  let v144 : BitVec 32 := Scalar.addi c0_i32_93 v143
  let c1_i32_2 : BitVec 32 := 1#32
  let v6 : BitVec 32 := Scalar.shrsi v2 c1_i32_2
  let c1_i32_3 : BitVec 32 := 1#32
  let v7 : BitVec 32 := Scalar.andi v6 c1_i32_3
  let c128_i32_345 : BitVec 32 := 128#32
  let v590 : BitVec 32 := Scalar.muli v7 c128_i32_345
  let v591 : BitVec 32 := Scalar.addi v144 v590
  let c128_i32_807 : BitVec 32 := 128#32
  let v1281 : BitVec 32 := Scalar.muli v7 c128_i32_807
  let v1282 : BitVec 32 := Scalar.subi v591 v1281
  let c1024_i32_811 : BitVec 32 := 1024#32
  ![v1282.toNat, 1024]
def k0_dev46 (d0 : Dev nD) : Nat :=
  let c0_i32_810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_809 : BitVec 32 := 1#32
  let v1283 : BitVec 32 := Scalar.muli v10 c1_i32_809
  let v1284 : BitVec 32 := Scalar.addi c0_i32_810 v1283
  v1284.toNat
def k0_off49 (d0 : Dev nD) : Fin 2 → Nat :=
  let c512_i32_105 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c256_i32_104 : BitVec 32 := 256#32
  let v162 : BitVec 32 := Scalar.muli v7 c256_i32_104
  let v163 : BitVec 32 := Scalar.addi c512_i32_105 v162
  let c2_i32 : BitVec 32 := 2#32
  let v8 : BitVec 32 := Scalar.shrsi v2 c2_i32
  let c1_i32_4 : BitVec 32 := 1#32
  let v9 : BitVec 32 := Scalar.andi v8 c1_i32_4
  let c128_i32_350 : BitVec 32 := 128#32
  let v603 : BitVec 32 := Scalar.muli v9 c128_i32_350
  let v604 : BitVec 32 := Scalar.addi v163 v603
  let c128_i32_824 : BitVec 32 := 128#32
  let v1301 : BitVec 32 := Scalar.muli v9 c128_i32_824
  let v1302 : BitVec 32 := Scalar.subi v604 v1301
  let c1024_i32_828 : BitVec 32 := 1024#32
  ![v1302.toNat, 1024]
def k0_dev47 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_826 : BitVec 32 := 1#32
  let v1303 : BitVec 32 := Scalar.muli v11 c1_i32_826
  let v1304 : BitVec 32 := Scalar.addi c0_i32_827 v1303
  v1304.toNat
def k0_off50 (d0 : Dev nD) : Fin 2 → Nat :=
  let c1024_i32_117 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c256_i32_116 : BitVec 32 := 256#32
  let v181 : BitVec 32 := Scalar.muli v9 c256_i32_116
  let v182 : BitVec 32 := Scalar.addi c1024_i32_117 v181
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32_355 : BitVec 32 := 128#32
  let v616 : BitVec 32 := Scalar.muli v5 c128_i32_355
  let v617 : BitVec 32 := Scalar.addi v182 v616
  let c128_i32_841 : BitVec 32 := 128#32
  let v1321 : BitVec 32 := Scalar.muli v5 c128_i32_841
  let v1322 : BitVec 32 := Scalar.subi v617 v1321
  let c1024_i32_845 : BitVec 32 := 1024#32
  ![v1322.toNat, 1024]
def k0_dev48 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_843 : BitVec 32 := 1#32
  let v1323 : BitVec 32 := Scalar.muli v12 c1_i32_843
  let v1324 : BitVec 32 := Scalar.addi c0_i32_844 v1323
  v1324.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1536x6144, .bf16⟩
  | .hbm, ⟨1, _⟩ => ⟨S6144x1536, .bf16⟩
  | .hbm, ⟨2, _⟩ => ⟨S1536x1536, .f32⟩
  | .hbm, ⟨3, _⟩ => ⟨S1536x1536, .bf16⟩
  | .hbm, ⟨4, _⟩ => ⟨S1536x1536, .bf16⟩
  | .hbm, ⟨5, _⟩ => ⟨S1536x1536, .bf16⟩
  | .hbm, ⟨6, _⟩ => ⟨S_, .bf16⟩
  | .hbm, ⟨7, _⟩ => ⟨S1536x1536, .bf16⟩
  | .hbm, ⟨8, _⟩ => ⟨S1536x1536, .bf16⟩
  | .hbm, ⟨9, _⟩ => ⟨S1536x1536, .bf16⟩
  | _, _ => ⟨S1536x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Tables.lean ====
/-
  The kernel's printed body, stated once more as a run of steps.

  The body works on nine pairs (ci, p): ci is the block of 512 columns, p the block of 512 rows. Each pair goes through nine steps,
  and the body is a list of (step, pair). This module gives the tables of the body (buffers, semaphores, devices and offsets by pair),
  the program of each step, and the theorem that the printed body is the run of the list.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions
public import Idealize.ShloMosaic.Lib.Tactic

@[expose] public section

noncomputable section

namespace Cert.KernelIdeal.Proof

open Idealize.ShloMosaic Idealize.ShloMosaic.TcCoe
open Idealize.SL.Sem
open Cert.KernelIdeal.Gen

variable {F : FTy → Type} [FloatOps F]

/-! ## Buffers and semaphores -/

/-- The staged block of A. -/
abbrev aM : Memref sig .tc .vmem S1536x768 .bf16 := Memref.whole cc0_stg0_0
/-- The staged block of B. -/
abbrev bM : Memref sig .tc .vmem S768x1536 .bf16 := Memref.whole cc0_stg1_0
/-- The staged result. -/
abbrev oM : Memref sig .tc .vmem S1536x1536 .bf16 := Memref.whole cc0_stg2_0
/-- The f32 accumulator. -/
abbrev zM : Memref sig .tc .vmem S1536x1536 .f32 := Memref.whole cc0_scratch0

/-- What a pair sends in reduce step 0. -/
def sM0 : Fin 3 → Fin 3 → Memref sig .tc .vmem S256x512 .bf16
  | 0, 0 => Memref.whole cc0_scratch1 | 0, 1 => Memref.whole cc0_scratch4 | 0, 2 => Memref.whole cc0_scratch7
  | 1, 0 => Memref.whole cc0_scratch10 | 1, 1 => Memref.whole cc0_scratch13 | 1, 2 => Memref.whole cc0_scratch16
  | 2, 0 => Memref.whole cc0_scratch19 | 2, 1 => Memref.whole cc0_scratch22 | 2, 2 => Memref.whole cc0_scratch25

/-- What a pair sends in reduce step 1. -/
def sM1 : Fin 3 → Fin 3 → Memref sig .tc .vmem S128x512 .bf16
  | 0, 0 => Memref.whole cc0_scratch2 | 0, 1 => Memref.whole cc0_scratch5 | 0, 2 => Memref.whole cc0_scratch8
  | 1, 0 => Memref.whole cc0_scratch11 | 1, 1 => Memref.whole cc0_scratch14 | 1, 2 => Memref.whole cc0_scratch17
  | 2, 0 => Memref.whole cc0_scratch20 | 2, 1 => Memref.whole cc0_scratch23 | 2, 2 => Memref.whole cc0_scratch26

/-- What a pair sends in reduce step 2. -/
def sM2 : Fin 3 → Fin 3 → Memref sig .tc .vmem S128x512 .bf16
  | 0, 0 => Memref.whole cc0_scratch3 | 0, 1 => Memref.whole cc0_scratch6 | 0, 2 => Memref.whole cc0_scratch9
  | 1, 0 => Memref.whole cc0_scratch12 | 1, 1 => Memref.whole cc0_scratch15 | 1, 2 => Memref.whole cc0_scratch18
  | 2, 0 => Memref.whole cc0_scratch21 | 2, 1 => Memref.whole cc0_scratch24 | 2, 2 => Memref.whole cc0_scratch27

/-- Where a pair's copy of reduce step 0 lands. -/
def rM0 : Fin 3 → Fin 3 → Memref sig .tc .vmem S256x512 .bf16
  | 0, 0 => Memref.whole cc0_scratch28 | 0, 1 => Memref.whole cc0_scratch31 | 0, 2 => Memref.whole cc0_scratch34
  | 1, 0 => Memref.whole cc0_scratch37 | 1, 1 => Memref.whole cc0_scratch40 | 1, 2 => Memref.whole cc0_scratch43
  | 2, 0 => Memref.whole cc0_scratch46 | 2, 1 => Memref.whole cc0_scratch49 | 2, 2 => Memref.whole cc0_scratch52

/-- Where a pair's copy of reduce step 1 lands. -/
def rM1 : Fin 3 → Fin 3 → Memref sig .tc .vmem S128x512 .bf16
  | 0, 0 => Memref.whole cc0_scratch29 | 0, 1 => Memref.whole cc0_scratch32 | 0, 2 => Memref.whole cc0_scratch35
  | 1, 0 => Memref.whole cc0_scratch38 | 1, 1 => Memref.whole cc0_scratch41 | 1, 2 => Memref.whole cc0_scratch44
  | 2, 0 => Memref.whole cc0_scratch47 | 2, 1 => Memref.whole cc0_scratch50 | 2, 2 => Memref.whole cc0_scratch53

/-- Where a pair's copy of reduce step 2 lands. -/
def rM2 : Fin 3 → Fin 3 → Memref sig .tc .vmem S128x512 .bf16
  | 0, 0 => Memref.whole cc0_scratch30 | 0, 1 => Memref.whole cc0_scratch33 | 0, 2 => Memref.whole cc0_scratch36
  | 1, 0 => Memref.whole cc0_scratch39 | 1, 1 => Memref.whole cc0_scratch42 | 1, 2 => Memref.whole cc0_scratch45
  | 2, 0 => Memref.whole cc0_scratch48 | 2, 1 => Memref.whole cc0_scratch51 | 2, 2 => Memref.whole cc0_scratch54

theorem sM0_whole (ci p : Fin 3) : (sM0 ci p).IsWhole := by fin_cases ci <;> fin_cases p <;> exact Memref.isWhole_whole _
theorem sM1_whole (ci p : Fin 3) : (sM1 ci p).IsWhole := by fin_cases ci <;> fin_cases p <;> exact Memref.isWhole_whole _
theorem sM2_whole (ci p : Fin 3) : (sM2 ci p).IsWhole := by fin_cases ci <;> fin_cases p <;> exact Memref.isWhole_whole _
theorem rM0_whole (ci p : Fin 3) : (rM0 ci p).IsWhole := by fin_cases ci <;> fin_cases p <;> exact Memref.isWhole_whole _
theorem rM1_whole (ci p : Fin 3) : (rM1 ci p).IsWhole := by fin_cases ci <;> fin_cases p <;> exact Memref.isWhole_whole _
theorem rM2_whole (ci p : Fin 3) : (rM2 ci p).IsWhole := by fin_cases ci <;> fin_cases p <;> exact Memref.isWhole_whole _

/-- The copies: step s (0–2 reduce, 3–4 gather) of the pair (ci, p). -/
abbrev Copy : Type := Fin 5 × Fin 3 × Fin 3

/-- A copy's place in the semaphore arrays. -/
def Copy.pos (x : Copy) : ℕ := 15 * x.2.1.val + 3 * x.1.val + x.2.2.val

theorem Copy.pos_lt (x : Copy) : x.pos < 45 := by
  obtain ⟨s, ci, p⟩ := x; unfold Copy.pos; dsimp only; omega

theorem Copy.pos_inb (x : Copy) : ∀ a, (![x.pos] : Fin 1 → Nat) a + S1.size a ≤ S45.size a := by
  revert x; decide

/-- A copy's send semaphore. -/
def sS (x : Copy) : DmaSem sig := ((cc0_scratch55.slice (Rect.unit (s := S45) ![x.pos] S1.size x.pos_inb)).squeeze S_ squeezes_S1_S_).sem
/-- A copy's receive semaphore. -/
def rS (x : Copy) : DmaSem sig := ((cc0_scratch56.slice (Rect.unit (s := S45) ![x.pos] S1.size x.pos_inb)).squeeze S_ squeezes_S1_S_).sem
/-- The barrier semaphore. -/
def barS : Sem sig := (SemArray.scalar (sig.barrier 0 rfl) : Sems sig S_).sem

/-! ## Devices

The eight devices are the corners of a cube. -/

/-- The neighbour along an axis. -/
def nbr (a : Fin 3) (d : Dev nD) : Dev nD :=
  match a with
  | 0 => ![1, 0, 3, 2, 5, 4, 7, 6] d
  | 1 => ![3, 2, 1, 0, 7, 6, 5, 4] d
  | 2 => ![4, 5, 6, 7, 0, 1, 2, 3] d

/-- A device's coordinate along an axis. -/
def bit (a : Fin 3) (d : Dev nD) : Fin 2 :=
  match a with
  | 0 => ![0, 1, 1, 0, 0, 1, 1, 0] d
  | 1 => ![0, 0, 1, 1, 0, 0, 1, 1] d
  | 2 => ![0, 0, 0, 0, 1, 1, 1, 1] d

/-- The axis of a copy: row block p halves along the axes p, p + 1, p + 2, and gathers back along p + 1, p. -/
def ax (s : Fin 5) (p : Fin 3) : Fin 3 :=
  match s with
  | 0 => p
  | 1 => p + 1
  | 2 => p + 2
  | 3 => p + 1
  | 4 => p

/-- The neighbour that a copy goes to (and comes from). -/
abbrev nb (x : Copy) (d : Dev nD) : Dev nD := nbr (ax x.1 x.2.2) d

/-- The barrier's three devices, as printed. -/
def bdv (a : Fin 3) (d : Dev nD) : Dev nD :=
  match a with
  | 0 => ⟨k0_dev1 d, Facts₀.k0_dev1_lt d⟩
  | 1 => ⟨k0_dev2 d, Facts₀.k0_dev2_lt d⟩
  | 2 => ⟨k0_dev3 d, Facts₀.k0_dev3_lt d⟩

/-- The copies' devices, as printed. -/
def dv (s : Fin 5) (ci p : Fin 3) (d : Dev nD) : Dev nD :=
  match s, ci, p with
  | 0, 0, 0 => ⟨k0_dev4 d, Facts₀.k0_dev4_lt d⟩ | 0, 0, 1 => ⟨k0_dev5 d, Facts₀.k0_dev5_lt d⟩ | 0, 0, 2 => ⟨k0_dev6 d, Facts₀.k0_dev6_lt d⟩
  | 0, 1, 0 => ⟨k0_dev7 d, Facts₀.k0_dev7_lt d⟩ | 0, 1, 1 => ⟨k0_dev8 d, Facts₀.k0_dev8_lt d⟩ | 0, 1, 2 => ⟨k0_dev9 d, Facts₀.k0_dev9_lt d⟩
  | 0, 2, 0 => ⟨k0_dev10 d, Facts₀.k0_dev10_lt d⟩ | 0, 2, 1 => ⟨k0_dev11 d, Facts₀.k0_dev11_lt d⟩ | 0, 2, 2 => ⟨k0_dev12 d, Facts₀.k0_dev12_lt d⟩
  | 1, 0, 0 => ⟨k0_dev13 d, Facts₀.k0_dev13_lt d⟩ | 1, 0, 1 => ⟨k0_dev14 d, Facts₀.k0_dev14_lt d⟩ | 1, 0, 2 => ⟨k0_dev15 d, Facts₀.k0_dev15_lt d⟩
  | 1, 1, 0 => ⟨k0_dev16 d, Facts₀.k0_dev16_lt d⟩ | 1, 1, 1 => ⟨k0_dev17 d, Facts₀.k0_dev17_lt d⟩ | 1, 1, 2 => ⟨k0_dev18 d, Facts₀.k0_dev18_lt d⟩
  | 1, 2, 0 => ⟨k0_dev19 d, Facts₀.k0_dev19_lt d⟩ | 1, 2, 1 => ⟨k0_dev20 d, Facts₀.k0_dev20_lt d⟩ | 1, 2, 2 => ⟨k0_dev21 d, Facts₀.k0_dev21_lt d⟩
  | 2, 0, 0 => ⟨k0_dev22 d, Facts₀.k0_dev22_lt d⟩ | 2, 0, 1 => ⟨k0_dev23 d, Facts₀.k0_dev23_lt d⟩ | 2, 0, 2 => ⟨k0_dev24 d, Facts₀.k0_dev24_lt d⟩
  | 2, 1, 0 => ⟨k0_dev25 d, Facts₀.k0_dev25_lt d⟩ | 2, 1, 1 => ⟨k0_dev26 d, Facts₀.k0_dev26_lt d⟩ | 2, 1, 2 => ⟨k0_dev27 d, Facts₀.k0_dev27_lt d⟩
  | 2, 2, 0 => ⟨k0_dev28 d, Facts₀.k0_dev28_lt d⟩ | 2, 2, 1 => ⟨k0_dev29 d, Facts₀.k0_dev29_lt d⟩ | 2, 2, 2 => ⟨k0_dev30 d, Facts₀.k0_dev30_lt d⟩
  | 3, 0, 0 => ⟨k0_dev31 d, Facts₀.k0_dev31_lt d⟩ | 3, 0, 1 => ⟨k0_dev32 d, Facts₀.k0_dev32_lt d⟩ | 3, 0, 2 => ⟨k0_dev33 d, Facts₀.k0_dev33_lt d⟩
  | 3, 1, 0 => ⟨k0_dev34 d, Facts₀.k0_dev34_lt d⟩ | 3, 1, 1 => ⟨k0_dev35 d, Facts₀.k0_dev35_lt d⟩ | 3, 1, 2 => ⟨k0_dev36 d, Facts₀.k0_dev36_lt d⟩
  | 3, 2, 0 => ⟨k0_dev37 d, Facts₀.k0_dev37_lt d⟩ | 3, 2, 1 => ⟨k0_dev38 d, Facts₀.k0_dev38_lt d⟩ | 3, 2, 2 => ⟨k0_dev39 d, Facts₀.k0_dev39_lt d⟩
  | 4, 0, 0 => ⟨k0_dev40 d, Facts₀.k0_dev40_lt d⟩ | 4, 0, 1 => ⟨k0_dev41 d, Facts₀.k0_dev41_lt d⟩ | 4, 0, 2 => ⟨k0_dev42 d, Facts₀.k0_dev42_lt d⟩
  | 4, 1, 0 => ⟨k0_dev43 d, Facts₀.k0_dev43_lt d⟩ | 4, 1, 1 => ⟨k0_dev44 d, Facts₀.k0_dev44_lt d⟩ | 4, 1, 2 => ⟨k0_dev45 d, Facts₀.k0_dev45_lt d⟩
  | 4, 2, 0 => ⟨k0_dev46 d, Facts₀.k0_dev46_lt d⟩ | 4, 2, 1 => ⟨k0_dev47 d, Facts₀.k0_dev47_lt d⟩ | 4, 2, 2 => ⟨k0_dev48 d, Facts₀.k0_dev48_lt d⟩

theorem bdv_eq : ∀ a d, bdv a d = nbr a d := by decide +kernel
theorem dv_eq : ∀ s ci p d, dv s ci p d = nbr (ax s p) d := by decide +kernel

/-! ## Offsets, as printed, and their closed forms -/

/-- A value in ℕ of a coordinate, and of the other one. -/
abbrev own (b : Fin 2) : ℕ := b.val
abbrev oth (b : Fin 2) : ℕ := 1 - b.val

/-- The rows of A whose product is sent. -/
def offAs (p : Fin 3) (d : Dev nD) : Fin 2 → ℕ :=
  match p with
  | 0 => k0_off1 d
  | 1 => k0_off2 d 512#32 1#32
  | 2 => k0_off2 d 1024#32 2#32

/-- The rows of A whose product is kept. -/
def offAk (p : Fin 3) (d : Dev nD) : Fin 2 → ℕ :=
  match p with
  | 0 => k0_off3 d
  | 1 => k0_off5 d 512#32 1#32
  | 2 => k0_off5 d 1024#32 2#32

/-- The kept half of the accumulator's block. -/
def offZ (ci p : Fin 3) (d : Dev nD) : Fin 2 → ℕ :=
  match ci, p with
  | 0, 0 => k0_off4 d | 0, 1 => k0_off6 d 512#32 1#32 | 0, 2 => k0_off6 d 1024#32 2#32
  | 1, 0 => k0_off7 d | 1, 1 => k0_off8 d 512#32 1#32 | 1, 2 => k0_off8 d 1024#32 2#32
  | 2, 0 => k0_off9 d | 2, 1 => k0_off10 d 512#32 1#32 | 2, 2 => k0_off10 d 1024#32 2#32

/-- The quarter that is sent. -/
def offZs (ci p : Fin 3) (d : Dev nD) : Fin 2 → ℕ :=
  match ci, p with
  | 0, 0 => k0_off11 d | 0, 1 => k0_off13 d | 0, 2 => k0_off14 d
  | 1, 0 => k0_off21 d | 1, 1 => k0_off22 d | 1, 2 => k0_off23 d
  | 2, 0 => k0_off27 d | 2, 1 => k0_off28 d | 2, 2 => k0_off29 d

/-- The quarter that is kept. -/
def offZk (ci p : Fin 3) (d : Dev nD) : Fin 2 → ℕ :=
  match ci, p with
  | 0, 0 => k0_off16 d | 0, 1 => k0_off18 d | 0, 2 => k0_off19 d
  | 1, 0 => k0_off24 d | 1, 1 => k0_off25 d | 1, 2 => k0_off26 d
  | 2, 0 => k0_off30 d | 2, 1 => k0_off31 d | 2, 2 => k0_off32 d

/-- The half of the received block that is sent on. -/
def offRs (p : Fin 3) (d : Dev nD) : Fin 2 → ℕ :=
  match p with
  | 0 => k0_off12 d 1#32
  | 1 => k0_off12 d 2#32
  | 2 => k0_off15 d

/-- The half of the received block that is kept. -/
def offRk (p : Fin 3) (d : Dev nD) : Fin 2 → ℕ :=
  match p with
  | 0 => k0_off17 d 1#32
  | 1 => k0_off17 d 2#32
  | 2 => k0_off20 d

/-- The quarter of the result, as the gather's first copy names it. -/
def offQ (ci p : Fin 3) (d : Dev nD) : Fin 2 → ℕ :=
  match ci, p with
  | 0, 0 => k0_off33 d | 0, 1 => k0_off34 d | 0, 2 => k0_off35 d
  | 1, 0 => k0_off36 d | 1, 1 => k0_off37 d | 1, 2 => k0_off38 d
  | 2, 0 => k0_off39 d | 2, 1 => k0_off40 d | 2, 2 => k0_off41 d

/-- The half of the result, as the gather's second copy names it. -/
def offH (ci p : Fin 3) (d : Dev nD) : Fin 2 → ℕ :=
  match ci, p with
  | 0, 0 => k0_off42 d | 0, 1 => k0_off43 d | 0, 2 => k0_off44 d
  | 1, 0 => k0_off45 d | 1, 1 => k0_off46 d | 1, 2 => k0_off47 d
  | 2, 0 => k0_off48 d | 2, 1 => k0_off49 d | 2, 2 => k0_off50 d

theorem offAs_eq : ∀ p d, offAs p d = ![512 * p.val + 256 * oth (bit (ax 0 p) d), 0] := by decide +kernel
theorem offAk_eq : ∀ p d, offAk p d = ![512 * p.val + 256 * own (bit (ax 0 p) d), 0] := by decide +kernel
theorem offZ_eq : ∀ ci p d, offZ ci p d = ![512 * p.val + 256 * own (bit (ax 0 p) d), 512 * ci.val] := by decide +kernel
theorem offZs_eq : ∀ ci p d, offZs ci p d = ![512 * p.val + 256 * own (bit (ax 0 p) d) + 128 * oth (bit (ax 1 p) d), 512 * ci.val] := by decide +kernel
theorem offZk_eq : ∀ ci p d, offZk ci p d = ![512 * p.val + 256 * own (bit (ax 0 p) d) + 128 * own (bit (ax 1 p) d), 512 * ci.val] := by decide +kernel
theorem offRs_eq : ∀ p d, offRs p d = ![128 * oth (bit (ax 1 p) d), 0] := by decide +kernel
theorem offRk_eq : ∀ p d, offRk p d = ![128 * own (bit (ax 1 p) d), 0] := by decide +kernel
theorem offQ_eq : ∀ ci p d, offQ ci p d = ![512 * p.val + 256 * own (bit (ax 0 p) d) + 128 * own (bit (ax 1 p) d), 512 * ci.val] := by decide +kernel
theorem offH_eq : ∀ ci p d, offH ci p d = ![512 * p.val + 256 * own (bit (ax 0 p) d), 512 * ci.val] := by decide +kernel

end Cert.KernelIdeal.Proof
end
-- ==== Proof.Steps.lean ====
/-
  The steps of the kernel's body, and the theorem that the printed body is the run of the list of steps.

  Each step is written once, for every pair, with what follows it as an argument. A pair's nine steps are: multiply the half of its rows
  that is sent, and send it; multiply the half that is kept; add the received block to what is sent on, and send that; add it to what is
  kept; the same two with the second received block; add the third received block, apply the silu and send the quarter of the result;
  receive a quarter and send the half; receive the other half.
-/
module

public import proofs.«01_k».proof.Proof.Tables
public import proofs.«01_k».proof.Proof.Gen.KernelIdeal.Launch

@[expose] public section

noncomputable section

namespace Cert.KernelIdeal.Proof

open Idealize.ShloMosaic Idealize.ShloMosaic.TcCoe
open Idealize.SL.Sem
open Cert.KernelIdeal.Gen

variable {F : FTy → Type} [FloatOps F]

theorem offAs_inb : ∀ p d a, offAs p d a + S256x768.size a ≤ S1536x768.size a := by decide +kernel
theorem offAk_inb : ∀ p d a, offAk p d a + S256x768.size a ≤ S1536x768.size a := by decide +kernel
theorem offZ_inb : ∀ ci p d a, offZ ci p d a + S256x512.size a ≤ S1536x1536.size a := by decide +kernel
theorem offZs_inb : ∀ ci p d a, offZs ci p d a + S128x512.size a ≤ S1536x1536.size a := by decide +kernel
theorem offZk_inb : ∀ ci p d a, offZk ci p d a + S128x512.size a ≤ S1536x1536.size a := by decide +kernel
theorem offRs_inb : ∀ p d a, offRs p d a + S128x512.size a ≤ S256x512.size a := by decide +kernel
theorem offRk_inb : ∀ p d a, offRk p d a + S128x512.size a ≤ S256x512.size a := by decide +kernel
theorem offQ_inb : ∀ ci p d a, offQ ci p d a + S128x512.size a ≤ S1536x1536.size a := by decide +kernel
theorem offH_inb : ∀ ci p d a, offH ci p d a + S256x512.size a ≤ S1536x1536.size a := by decide +kernel

/-- The stored quarter of the result covers whole packed rows. -/
theorem offZk_packed (ci p : Fin 3) (d : Dev nD) : (Rect.unit (s := S1536x1536) (offZk ci p d) S128x512.size (offZk_inb ci p d)).PackedRows (EltTy.packing .bf16) :=
  match ci, p with
  | 0, 0 => Facts₀.k0_off16_packedbf16 d | 0, 1 => Facts₀.k0_off18_packedbf16 d | 0, 2 => Facts₀.k0_off19_packedbf16 d
  | 1, 0 => Facts₀.k0_off24_packedbf16 d | 1, 1 => Facts₀.k0_off25_packedbf16 d | 1, 2 => Facts₀.k0_off26_packedbf16 d
  | 2, 0 => Facts₀.k0_off30_packedbf16 d | 2, 1 => Facts₀.k0_off31_packedbf16 d | 2, 2 => Facts₀.k0_off32_packedbf16 d

/-- The copied quarter of the result covers whole words. -/
theorem offQ_words (ci p : Fin 3) (d : Dev nD) : (Rect.unit (s := S1536x1536) (offQ ci p d) S128x512.size (offQ_inb ci p d)).WholeWords (EltTy.packing .bf16) :=
  match ci, p with
  | 0, 0 => Facts₀.k0_off33_wordsbf16 d | 0, 1 => Facts₀.k0_off34_wordsbf16 d | 0, 2 => Facts₀.k0_off35_wordsbf16 d
  | 1, 0 => Facts₀.k0_off36_wordsbf16 d | 1, 1 => Facts₀.k0_off37_wordsbf16 d | 1, 2 => Facts₀.k0_off38_wordsbf16 d
  | 2, 0 => Facts₀.k0_off39_wordsbf16 d | 2, 1 => Facts₀.k0_off40_wordsbf16 d | 2, 2 => Facts₀.k0_off41_wordsbf16 d

/-- The copied half of the result covers whole words. -/
theorem offH_words (ci p : Fin 3) (d : Dev nD) : (Rect.unit (s := S1536x1536) (offH ci p d) S256x512.size (offH_inb ci p d)).WholeWords (EltTy.packing .bf16) :=
  match ci, p with
  | 0, 0 => Facts₀.k0_off42_wordsbf16 d | 0, 1 => Facts₀.k0_off43_wordsbf16 d | 0, 2 => Facts₀.k0_off44_wordsbf16 d
  | 1, 0 => Facts₀.k0_off45_wordsbf16 d | 1, 1 => Facts₀.k0_off46_wordsbf16 d | 1, 2 => Facts₀.k0_off47_wordsbf16 d
  | 2, 0 => Facts₀.k0_off48_wordsbf16 d | 2, 1 => Facts₀.k0_off49_wordsbf16 d | 2, 2 => Facts₀.k0_off50_wordsbf16 d

/-- The quarter of the result that the gather's first copy moves. -/
abbrev oQ (ci p : Fin 3) (d : Dev nD) : Memref sig .tc .vmem S128x512 .bf16 :=
  oM.slice (Rect.unit (s := S1536x1536) (offQ ci p d) S128x512.size (offQ_inb ci p d)) (fun _ => rfl)
/-- The half of the result that the gather's second copy moves. -/
abbrev oH (ci p : Fin 3) (d : Dev nD) : Memref sig .tc .vmem S256x512 .bf16 :=
  oM.slice (Rect.unit (s := S1536x1536) (offH ci p d) S256x512.size (offH_inb ci p d)) (fun _ => rfl)

theorem oQ_words (ci p : Fin 3) (d : Dev nD) : (oQ ci p d).view.WordExact := (Memref.isWhole_whole cc0_stg2_0).wordExact_slice rfl _ (offQ_words ci p d)
theorem oH_words (ci p : Fin 3) (d : Dev nD) : (oH ci p d).view.WordExact := (Memref.isWhole_whole cc0_stg2_0).wordExact_slice rfl _ (offH_words ci p d)

/-- A program of the body, and what follows a step. -/
abbrev Body (F : FTy → Type) : Type 1 := Prog (TpuEff nD τ sig (Elt F) Λ₀ .tc) PUnit

/-- The whole of a 256-row block. -/
abbrev w256 : Rect S256x512 := Rect.unit (s := S256x512) ![0, 0] S256x512.size Facts₀.inb_S256x512_S256x512_0_0
/-- The whole of a 128-row block. -/
abbrev w128 : Rect S128x512 := Rect.unit (s := S128x512) ![0, 0] S128x512.size Facts₀.inb_S128x512_S128x512_0_0
/-- The rows of A whose product is sent, and kept. -/
abbrev rAs (p : Fin 3) (d : Dev nD) : Rect S1536x768 := Rect.unit (s := S1536x768) (offAs p d) S256x768.size (offAs_inb p d)
abbrev rAk (p : Fin 3) (d : Dev nD) : Rect S1536x768 := Rect.unit (s := S1536x768) (offAk p d) S256x768.size (offAk_inb p d)
/-- The kept half of an accumulator block, and its quarters sent and kept. -/
abbrev rZ (ci p : Fin 3) (d : Dev nD) : Rect S1536x1536 := Rect.unit (s := S1536x1536) (offZ ci p d) S256x512.size (offZ_inb ci p d)
abbrev rZs (ci p : Fin 3) (d : Dev nD) : Rect S1536x1536 := Rect.unit (s := S1536x1536) (offZs ci p d) S128x512.size (offZs_inb ci p d)
abbrev rZk (ci p : Fin 3) (d : Dev nD) : Rect S1536x1536 := Rect.unit (s := S1536x1536) (offZk ci p d) S128x512.size (offZk_inb ci p d)
/-- The halves of a received block, sent on and kept. -/
abbrev rRs (p : Fin 3) (d : Dev nD) : Rect S256x512 := Rect.unit (s := S256x512) (offRs p d) S128x512.size (offRs_inb p d)
abbrev rRk (p : Fin 3) (d : Dev nD) : Rect S256x512 := Rect.unit (s := S256x512) (offRk p d) S128x512.size (offRk_inb p d)

/-- Multiply the half that is sent, and send it. -/
def sendDot (ci p : Fin 3) (d : Dev nD) (v : FVec F S768x512 .bf16) (k : Body F) : Body F :=
  .op (.load aM (rAs p d).toLoadRect (View.loadsAt_vmem h_S256x768)) fun x =>
  .op (.load (sM0 ci p) w256.toLoadRect (View.loadsAt_vmem h_S256x512)) fun _ =>
  .op (.store (sM0 ci p) w256 (k0_pay4 v x) Finset.univ
    (View.stores_vmem h_S256x512 ((sM0_whole ci p).storeExact_slice rfl _ Facts₀.packedbf16_S256x512_S256x512_0_0) (fun _ => rfl)) (.inl rfl)) fun _ =>
  .op (.enqueueDma (sM0 ci p) (.remote (Dev.tc (dv 0 ci p d)) (rM0 ci p) (.dma (sS (0, ci, p)))) (.dma (rS (0, ci, p)))
    (sM0_whole ci p).wordExact (rM0_whole ci p).wordExact ⟨⟨rfl, Or.inl rfl⟩, trivial⟩) fun _ => k

/-- Multiply the half that is kept. -/
def keepDot (ci p : Fin 3) (d : Dev nD) (v : FVec F S768x512 .bf16) (k : Body F) : Body F :=
  .op (.load aM (rAk p d).toLoadRect (View.loadsAt_vmem h_S256x768)) fun x =>
  .op (.load zM (rZ ci p d).toLoadRect (View.loadsAt_vmem h_S256x512)) fun _ =>
  .op (.store zM (rZ ci p d) (k0_pay14 v x) Finset.univ (View.stores_vmem_bits_univ h_S256x512 rfl) (.inl rfl)) fun _ => k

/-- The two waits of a copy between scratch buffers: for its departure, and for the arrival of the neighbour's. -/
def waits {s : Shape} (x : Copy) (src dst : Memref sig .tc .vmem s .bf16) (hs : src.view.WordExact) (hd : dst.view.WordExact) (k : Body F) : Body F :=
  .op (.waitDma2 (sS x) dst src hd hs) fun _ =>
  .op (.waitDma2 (rS x) src dst hs hd) fun _ => k

/-- Add the received block to the quarter that is sent on, and send it. -/
def rsSend (ci p : Fin 3) (d : Dev nD) (k : Body F) : Body F :=
  waits (0, ci, p) (sM0 ci p) (rM0 ci p) (sM0_whole ci p).wordExact (rM0_whole ci p).wordExact <|
  .op (.load zM (rZs ci p d).toLoadRect (View.loadsAt_vmem h_S128x512)) fun x =>
  .op (.load (rM0 ci p) (rRs p d).toLoadRect (View.loadsAt_vmem h_S128x512)) fun y =>
  .op (.load (sM1 ci p) w128.toLoadRect (View.loadsAt_vmem h_S128x512)) fun _ =>
  .op (.store (sM1 ci p) w128 (k0_pay24 x y) Finset.univ
    (View.stores_vmem h_S128x512 ((sM1_whole ci p).storeExact_slice rfl _ Facts₀.packedbf16_S128x512_S128x512_0_0) (fun _ => rfl)) (.inl rfl)) fun _ =>
  .op (.enqueueDma (sM1 ci p) (.remote (Dev.tc (dv 1 ci p d)) (rM1 ci p) (.dma (sS (1, ci, p)))) (.dma (rS (1, ci, p)))
    (sM1_whole ci p).wordExact (rM1_whole ci p).wordExact ⟨⟨rfl, Or.inl rfl⟩, trivial⟩) fun _ => k

/-- Add the received block to the quarter that is kept. -/
def rsKeep (ci p : Fin 3) (d : Dev nD) (k : Body F) : Body F :=
  .op (.load zM (rZk ci p d).toLoadRect (View.loadsAt_vmem h_S128x512)) fun x =>
  .op (.load (rM0 ci p) (rRk p d).toLoadRect (View.loadsAt_vmem h_S128x512)) fun y =>
  .op (.load zM (rZk ci p d).toLoadRect (View.loadsAt_vmem h_S128x512)) fun _ =>
  .op (.store zM (rZk ci p d) (k0_pay27 x y) Finset.univ (View.stores_vmem_bits_univ h_S128x512 rfl) (.inl rfl)) fun _ => k

/-- Add the second received block to a copy of the quarter, and send it. -/
def mSend (ci p : Fin 3) (d : Dev nD) (k : Body F) : Body F :=
  waits (1, ci, p) (sM1 ci p) (rM1 ci p) (sM1_whole ci p).wordExact (rM1_whole ci p).wordExact <|
  .op (.load zM (rZk ci p d).toLoadRect (View.loadsAt_vmem h_S128x512)) fun x =>
  .op (.load (rM1 ci p) w128.toLoadRect (View.loadsAt_vmem h_S128x512)) fun y =>
  .op (.load (sM2 ci p) w128.toLoadRect (View.loadsAt_vmem h_S128x512)) fun _ =>
  .op (.store (sM2 ci p) w128 (k0_pay24 x y) Finset.univ
    (View.stores_vmem h_S128x512 ((sM2_whole ci p).storeExact_slice rfl _ Facts₀.packedbf16_S128x512_S128x512_0_0) (fun _ => rfl)) (.inl rfl)) fun _ =>
  .op (.enqueueDma (sM2 ci p) (.remote (Dev.tc (dv 2 ci p d)) (rM2 ci p) (.dma (sS (2, ci, p)))) (.dma (rS (2, ci, p)))
    (sM2_whole ci p).wordExact (rM2_whole ci p).wordExact ⟨⟨rfl, Or.inl rfl⟩, trivial⟩) fun _ => k

/-- Add the second received block to the quarter. -/
def mKeep (ci p : Fin 3) (d : Dev nD) (k : Body F) : Body F :=
  .op (.load zM (rZk ci p d).toLoadRect (View.loadsAt_vmem h_S128x512)) fun x =>
  .op (.load (rM1 ci p) w128.toLoadRect (View.loadsAt_vmem h_S128x512)) fun y =>
  .op (.load zM (rZk ci p d).toLoadRect (View.loadsAt_vmem h_S128x512)) fun _ =>
  .op (.store zM (rZk ci p d) (k0_pay27 x y) Finset.univ (View.stores_vmem_bits_univ h_S128x512 rfl) (.inl rfl)) fun _ => k

/-- Add the third received block, apply the silu, and send the quarter of the result. -/
def silu (ci p : Fin 3) (d : Dev nD) (k : Body F) : Body F :=
  waits (2, ci, p) (sM2 ci p) (rM2 ci p) (sM2_whole ci p).wordExact (rM2_whole ci p).wordExact <|
  .op (.load zM (rZk ci p d).toLoadRect (View.loadsAt_vmem h_S128x512)) fun x =>
  .op (.load (rM2 ci p) w128.toLoadRect (View.loadsAt_vmem h_S128x512)) fun y =>
  .op (.load oM (rZk ci p d).toLoadRect (View.loadsAt_vmem h_S128x512)) fun _ =>
  .op (.store oM (rZk ci p d) (k0_pay64 x y) Finset.univ
    (View.stores_vmem h_S128x512 ((Memref.isWhole_whole cc0_stg2_0).storeExact_slice rfl _ (offZk_packed ci p d)) (fun _ => rfl)) (.inl rfl)) fun _ =>
  .op (.enqueueDma (oQ ci p d) (.remote (Dev.tc (dv 3 ci p d)) (oQ ci p d) (.dma (sS (3, ci, p)))) (.dma (rS (3, ci, p)))
    (oQ_words ci p d) (oQ_words ci p d) ⟨⟨rfl, Or.inl rfl⟩, trivial⟩) fun _ => k

/-- Receive the quarter beside one's own, and send the half. -/
def agStep (ci p : Fin 3) (d : Dev nD) (k : Body F) : Body F :=
  waits (3, ci, p) (oQ ci p d) (oQ ci p d) (oQ_words ci p d) (oQ_words ci p d) <|
  .op (.enqueueDma (oH ci p d) (.remote (Dev.tc (dv 4 ci p d)) (oH ci p d) (.dma (sS (4, ci, p)))) (.dma (rS (4, ci, p)))
    (oH_words ci p d) (oH_words ci p d) ⟨⟨rfl, Or.inl rfl⟩, trivial⟩) fun _ => k

/-- Receive the other half. -/
def agEnd (ci p : Fin 3) (d : Dev nD) (k : Body F) : Body F :=
  waits (4, ci, p) (oH ci p d) (oH ci p d) (oH_words ci p d) (oH_words ci p d) k

/-- A step's number with its pair. -/
abbrev Step : Type := Fin 9 × Fin 3 × Fin 3

/-- The program of a step. -/
def Step.prog (x : Step) (d : Dev nD) (v : Fin 3 → FVec F S768x512 .bf16) (k : Body F) : Body F :=
  match x with
  | (0, ci, p) => sendDot ci p d (v ci) k
  | (1, ci, p) => keepDot ci p d (v ci) k
  | (2, ci, p) => rsSend ci p d k
  | (3, ci, p) => rsKeep ci p d k
  | (4, ci, p) => mSend ci p d k
  | (5, ci, p) => mKeep ci p d k
  | (6, ci, p) => silu ci p d k
  | (7, ci, p) => agStep ci p d k
  | (8, ci, p) => agEnd ci p d k

/-- The three pairs of a column block. -/
def row (n : Fin 9) (ci : Fin 3) : List Step := [(n, ci, 0), (n, ci, 1), (n, ci, 2)]
/-- The nine pairs. -/
def all (n : Fin 9) : List Step := row n 0 ++ row n 1 ++ row n 2
/-- Two steps, column block by column block. -/
def alt (n n' : Fin 9) : List Step := row n 0 ++ row n' 0 ++ (row n 1 ++ row n' 1) ++ (row n 2 ++ row n' 2)
/-- The steps, in the body's order. -/
def steps : List Step := all 0 ++ all 1 ++ alt 2 3 ++ alt 4 5 ++ all 6 ++ all 7 ++ all 8

/-- The run of a list of steps. -/
def run (d : Dev nD) (v : Fin 3 → FVec F S768x512 .bf16) : List Step → Body F
  | [] => .ret ⟨⟩
  | x :: l => x.prog d v (run d v l)

/-- The columns of B of a column block. -/
abbrev rB0 : Rect S768x1536 := Rect.unit (s := S768x1536) ![0, 0] S768x512.size Facts₀.inb_S768x1536_S768x512_0_0
abbrev rB1 : Rect S768x1536 := Rect.unit (s := S768x1536) ![0, 512] S768x512.size Facts₀.inb_S768x1536_S768x512_0_512
abbrev rB2 : Rect S768x1536 := Rect.unit (s := S768x1536) ![0, 1024] S768x512.size Facts₀.inb_S768x1536_S768x512_0_1024

/-- The body: read the device, meet the three neighbours at the barrier, load the three column blocks of B, run the steps. -/
def body : Body F :=
  .op .deviceId fun d =>
  .op (.semSignal (bdv 0 d, .tc) barS (1#32).toInt) fun _ =>
  .op (.semSignal (bdv 1 d, .tc) barS (1#32).toInt) fun _ =>
  .op (.semSignal (bdv 2 d, .tc) barS (1#32).toInt) fun _ =>
  .op (.semWait barS (3#32).toInt) fun _ =>
  .op (.load bM rB0.toLoadRect (View.loadsAt_vmem h_S768x512)) fun x0 =>
  .op (.load bM rB1.toLoadRect (View.loadsAt_vmem h_S768x512)) fun x1 =>
  .op (.load bM rB2.toLoadRect (View.loadsAt_vmem h_S768x512)) fun x2 =>
  run d (fun ci => match ci with | 0 => k0_pay1 x0 | 1 => k0_pay2 x1 | 2 => k0_pay3 x2) steps

set_option maxRecDepth 65536 in
/-- The printed body is the run of the steps. -/
theorem body_eq : bodyAt0 (F := F) Gen.t0_0 = body := by
  chain_rfl

end Cert.KernelIdeal.Proof
end
-- ==== Proof.Blocks.lean ====
/-
  Owning a part of a buffer, and the blocks of the result.

  The rules for a load, a store and a remote copy are stated here for `owns`: a core owns a memref and reads known values through it. After
  them come the blocks that the kernel cuts a 1536 x 1536 buffer into: half h of the rows of row block p, in column block ci (256 x 512), and
  quarter k of such a half (128 x 512).
-/
module

public import Idealize.ShloMosaic.Lib.Rounds
public import Idealize.ShloMosaic.Lib.Memref
public import Idealize.ShloMosaic.Lib.Pipeline.Kit
public import Idealize.ShloMosaic.Lib.Tactic

@[expose] public section

noncomputable section

namespace Cert.Blocks

open Idealize.ShloMosaic
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}

/-- A load of a part that is owned reads its contents. -/
theorem load_part {cs : CoreSpace} {m : Memref sig c.2.kind cs s e} {r : Rect s} (hr : ∀ a, r.stride a = 1) {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE' defs 𝒱 c bd Γ) E (k X) Q) -∗ wp frame (wpE' defs 𝒱 c bd Γ) E (.op (.load m r.toLoadRect hl) k) Q) := by
  unfold owns
  iintro ⟨%f, %hf, H⟩ Hk
  iapply (wp_load_rect 𝒱 c bd E (m := m) (r := r) (S := (m.slice r hr).view.set) (f := f) (Finset.Subset.refl _)) $$ [H]
  · iexact H
  iintro H
  have h : (m.access r).read Val f = X := hf
  rw [h]
  iapply Hk
  iexists f
  isplitr
  · ipureintro; exact hf
  · iexact H

/-- A load inside a memref that is owned reads its part of the contents. -/
theorem load_in {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (fun j => X (r.emb j))) Q) -∗ wp frame (wpE' defs 𝒱 c bd Γ) E (.op (.load m r.toLoadRect hl) k) Q) := by
  unfold owns
  iintro ⟨%f, %hf, H⟩ Hk
  iapply (wp_load_rect 𝒱 c bd E (m := m) (r := r) (S := m.view.set) (f := f) (View.set_slice_subset _ _)) $$ [H]
  · iexact H
  iintro H
  have h : (m.access r).read Val f = fun j => X (r.emb j) := by rw [← hf]; rfl
  rw [h]
  iapply Hk
  iexists f
  isplitr
  · ipureintro; exact hf
  · iexact H

/-- A store to a part that is owned leaves the stored value. -/
theorem store_part {cs : CoreSpace} {m : Memref sig c.2.kind cs s e} {r : Rect s} (hr : ∀ a, r.stride a = 1) {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Q) -∗ wp frame (wpE' defs 𝒱 c bd Γ) E (.op (.store m r w Finset.univ hx hm) k) Q) := by
  unfold owns
  iintro ⟨%f, %hf, H⟩ Hk
  iapply (wp_store 𝒱 c bd E (m := m) (r := r) (S := (m.slice r hr).view.set) (f := f) (View.setOn_subset_set _ _)) $$ [H]
  · iexact H
  iintro H
  iapply Hk
  iexists (m.access r).write Val f w Finset.univ
  isplitr
  · ipureintro; exact View.read_write_univ _ _
  · iexact H

end Rules

section Views

variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl
variable (c : Thread nD τ) {sp : Space} {s : Shape} {e : EltTy}

/-- The slices of a memref at equal offsets are the same. -/
theorem slice_congr {κ : Kind} (m : Memref sig κ sp s e) {off off' size : Fin s.rank → Nat} (h : off = off')
    (p : ∀ a, off a + size a ≤ s.size a) (p' : ∀ a, off' a + size a ≤ s.size a) :
    m.slice (Rect.unit off size p) (fun _ => rfl) = m.slice (Rect.unit off' size p') (fun _ => rfl) := by
  subst h; rfl

/-- A slice of a slice is the slice at the sum of the offsets. -/
theorem owns_slice_slice (m : Memref sig c.2.kind sp s e) {off size off' size' off'' : Fin s.rank → Nat}
    (p : ∀ a, off a + size a ≤ s.size a) (p' : ∀ a, off' a + size' a ≤ (⟨s.rank, size⟩ : Shape).size a) (p'' : ∀ a, off'' a + size' a ≤ s.size a)
    (h : ∀ a, off a + off' a = off'' a) (q : PosShare TreeShare) (X : (⟨s.rank, size'⟩ : Shape).Idx → Val e) :
    (owns c ((m.slice (Rect.unit off size p) (fun _ => rfl)).slice (Rect.unit (s := ⟨s.rank, size⟩) off' size' p') (fun _ => rfl)) q X : sProp 𝕄)
      = owns c (m.slice (Rect.unit off'' size' p'') (fun _ => rfl)) q X := by
  have hemb : (Rect.unit (s := ⟨s.rank, size⟩) off' size' p').emb.trans ((Rect.unit off size p).emb.trans m.view.emb)
      = (Rect.unit off'' size' p'').emb.trans m.view.emb := by
    refine DFunLike.ext _ _ fun j => congrArg m.view.emb (funext fun a => Fin.ext ?_)
    simp only [Rect.emb_apply, Rect.off_unit, Rect.stride_unit, Nat.one_mul]
    have := h a
    omega
  unfold owns
  have hset : ((m.slice (Rect.unit off size p) (fun _ => rfl)).slice (Rect.unit (s := ⟨s.rank, size⟩) off' size' p') (fun _ => rfl)).view.set
      = (m.slice (Rect.unit off'' size' p'') (fun _ => rfl)).view.set := congrArg (fun f => Finset.univ.map f) hemb
  have hread (f : m.view.ty.Contents Val) :
      ((m.slice (Rect.unit off size p) (fun _ => rfl)).slice (Rect.unit (s := ⟨s.rank, size⟩) off' size' p') (fun _ => rfl)).view.read Val f
        = (m.slice (Rect.unit off'' size' p'') (fun _ => rfl)).view.read Val f :=
    funext fun j => congrArg (fun (g : (⟨s.rank, size'⟩ : Shape).Idx ↪ m.view.ty.Idx) => _root_.cast (congrArg Val m.view.elt_eq) (f (g j))) hemb
  rw [hset]
  exact congrArg BIBase.«exists» (funext fun f => by rw [hread f])

/-- The slice at offset zero of the memref's own sizes is the memref. -/
theorem owns_slice_full (m : Memref sig c.2.kind sp s e) {off : Fin s.rank → Nat} (h : ∀ a, off a = 0)
    (p : ∀ a, off a + s.size a ≤ s.size a) (q : PosShare TreeShare) (X : s.Idx → Val e) :
    (owns c (m.slice (Rect.unit off s.size p) (fun _ => rfl)) q X : sProp 𝕄) = owns c m q X := by
  have hemb : (Rect.unit off s.size p).emb.trans m.view.emb = m.view.emb := by
    refine DFunLike.ext _ _ fun j => congrArg m.view.emb (funext fun a => Fin.ext ?_)
    simp only [Rect.emb_apply, Rect.off_unit, Rect.stride_unit, Nat.one_mul, h a, Nat.zero_add]
  unfold owns
  have hset : (m.slice (Rect.unit off s.size p) (fun _ => rfl)).view.set = m.view.set := congrArg (fun f => Finset.univ.map f) hemb
  have hread (f : m.view.ty.Contents Val) : (m.slice (Rect.unit off s.size p) (fun _ => rfl)).view.read Val f = m.view.read Val f :=
    funext fun j => congrArg (fun (g : s.Idx ↪ m.view.ty.Idx) => _root_.cast (congrArg Val m.view.elt_eq) (f (g j))) hemb
  rw [hset]
  exact congrArg BIBase.«exists» (funext fun f => by rw [hread f])

/-- The multi-index of a rectangle of the full sizes is itself. -/
theorem emb_full {off : Fin s.rank → Nat} (h : ∀ a, off a = 0) (p : ∀ a, off a + s.size a ≤ s.size a) (j : s.Idx) :
    (Rect.unit off s.size p).emb j = j :=
  funext fun a => Fin.ext (by simp only [Rect.emb_apply, Rect.off_unit, Rect.stride_unit, Nat.one_mul, h a, Nat.zero_add])

end Views

section FullRules

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}

/-- A load of a part, named as another memref equal to it. -/
theorem load_at {cs : CoreSpace} {m : Memref sig c.2.kind cs s e} {r : Rect s} {hr : ∀ a, r.stride a = 1} {m' : Memref sig c.2.kind cs r.shape e}
    (h : m.slice r hr = m') {hl : m.view.LoadsAt r.toLoadRect}
    {k : (r.shape.Idx → Val e) → Prog (TpuEff nD τ sig Val Λ c.2) α} {q : PosShare TreeShare} {X : r.shape.Idx → Val e} :
    (owns c m' q X : sProp 𝕄)
      ⊢ iprop((owns c m' q X -∗ wp frame (wpE' defs 𝒱 c bd Γ) E (k X) Q) -∗ wp frame (wpE' defs 𝒱 c bd Γ) E (.op (.load m r.toLoadRect hl) k) Q) := by
  subst h; exact load_part 𝒱 c bd E hr

/-- A store to a part, named as another memref equal to it. -/
theorem store_at {cs : CoreSpace} {m : Memref sig c.2.kind cs s e} {r : Rect s} {hr : ∀ a, r.stride a = 1} {m' : Memref sig c.2.kind cs r.shape e}
    (h : m.slice r hr = m') {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c m' fullShare X : sProp 𝕄)
      ⊢ iprop((owns c m' fullShare w -∗ wp frame (wpE' defs 𝒱 c bd Γ) E (k ⟨⟩) Q) -∗ wp frame (wpE' defs 𝒱 c bd Γ) E (.op (.store m r w Finset.univ hx hm) k) Q) := by
  subst h; exact store_part 𝒱 c bd E hr

/-- A load of the whole of a memref. -/
theorem load_full {cs : CoreSpace} {m : Memref sig c.2.kind cs s e} {off : Fin s.rank → Nat} (h : ∀ a, off a = 0) {p : ∀ a, off a + s.size a ≤ s.size a}
    {hl : m.view.LoadsAt (Rect.unit off s.size p).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q) -∗ wp frame (wpE' defs 𝒱 c bd Γ) E (.op (.load m (Rect.unit off s.size p).toLoadRect hl) k) Q) := by
  have H := load_in (U := U) (Lvl := Lvl) (defs := defs) 𝒱 c bd (Γ := Γ) E (m := m) (r := Rect.unit off s.size p) (hl := hl) (k := k) (q := q) (X := X) (Q := Q)
  rw [show (fun j => X ((Rect.unit off s.size p).emb j)) = X from funext fun j => congrArg X (emb_full h p j)] at H
  exact H

/-- A store to the whole of a memref. -/
theorem store_full {cs : CoreSpace} {m : Memref sig c.2.kind cs s e} {off : Fin s.rank → Nat} (h : ∀ a, off a = 0) {p : ∀ a, off a + s.size a ≤ s.size a}
    {w : s.Idx → Val e} {hx : (m.access (Rect.unit off s.size p)).Stores Finset.univ}
    {hm : (Finset.univ : Finset (Rect.unit off s.size p).shape.Idx) = Finset.univ ∨ ∀ a, (Rect.unit off s.size p).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit off s.size p) w Finset.univ hx hm) k) Q) := by
  have H := store_part (U := U) (Lvl := Lvl) (defs := defs) 𝒱 c bd (Γ := Γ) E (m := m) (r := Rect.unit off s.size p) (fun _ => rfl) (w := w) (hx := hx) (hm := hm) (k := k) (X := X) (Q := Q)
  rw [owns_slice_full c m h p, owns_slice_full c m h p] at H
  exact H

end FullRules

/-- Reading at equal offsets reads the same. -/
theorem read_congr {s : Shape} {α : Type} {off off' size : Fin s.rank → Nat} (h : off = off')
    (p : ∀ a, off a + size a ≤ s.size a) (p' : ∀ a, off' a + size a ≤ s.size a) (X : s.Idx → α) :
    (fun j => X ((Rect.unit off size p).emb j)) = fun j => X ((Rect.unit off' size p').emb j) := by
  subst h; rfl

/-! ## The blocks -/

/-- The shapes of a whole buffer, of a half of a row block, and of a quarter. -/
abbrev SW : Shape := ⟨2, ![1536, 1536]⟩
abbrev SH : Shape := ⟨2, ![256, 512]⟩
abbrev SQ : Shape := ⟨2, ![128, 512]⟩

/-- A pair: a column block and a row block. -/
abbrev Pair : Type := Fin 3 × Fin 3

/-- Half h of row block p in column block ci; quarter k of it; the quarter within the half. -/
abbrev offHalf (ci p : Fin 3) (h : Fin 2) : Fin 2 → ℕ := ![512 * p.val + 256 * h.val, 512 * ci.val]
abbrev offQuart (ci p : Fin 3) (h k : Fin 2) : Fin 2 → ℕ := ![512 * p.val + 256 * h.val + 128 * k.val, 512 * ci.val]
abbrev offIn (k : Fin 2) : Fin 2 → ℕ := ![128 * k.val, 0]

theorem offHalf_inb (ci p : Fin 3) (h : Fin 2) : ∀ a, offHalf ci p h a + SH.size a ≤ SW.size a := by revert ci p h; decide +kernel
theorem offQuart_inb (ci p : Fin 3) (h k : Fin 2) : ∀ a, offQuart ci p h k a + SQ.size a ≤ SW.size a := by revert ci p h k; decide +kernel
theorem offIn_inb (k : Fin 2) : ∀ a, offIn k a + SQ.size a ≤ SH.size a := by revert k; decide +kernel

abbrev rHalf (ci p : Fin 3) (h : Fin 2) : Rect SW := Rect.unit (s := SW) (offHalf ci p h) SH.size (offHalf_inb ci p h)
abbrev rQuart (ci p : Fin 3) (h k : Fin 2) : Rect SW := Rect.unit (s := SW) (offQuart ci p h k) SQ.size (offQuart_inb ci p h k)
abbrev rIn (k : Fin 2) : Rect SH := Rect.unit (s := SH) (offIn k) SQ.size (offIn_inb k)

theorem off_sum (ci p : Fin 3) (h k : Fin 2) : ∀ a, offHalf ci p h a + offIn k a = offQuart ci p h k a := by revert ci p h k; decide +kernel

variable {α : Type}

/-- One of the two quarters of a half's contents. -/
def part (k : Fin 2) (X : SH.Idx → α) : SQ.Idx → α := fun j => X ((rIn k).emb j)

/-- A half's contents from its two quarters'. -/
def cat (G : Fin 2 → SQ.Idx → α) : SH.Idx → α := fun i =>
  G ⟨(i 0).val / 128, by have : (i 0).val < 256 := (i 0).isLt; omega⟩
    (fun a => match a with
      | 0 => ⟨(i 0).val % 128, Nat.mod_lt _ (by decide)⟩
      | 1 => ⟨(i 1).val, (i 1).isLt⟩)

theorem part_cat (G : Fin 2 → SQ.Idx → α) (k : Fin 2) : part k (cat G) = G k := by
  funext j
  have h0 : (j 0).val < 128 := (j 0).isLt
  have e0 : ((rIn k).emb j 0).val = 128 * k.val + (j 0).val := by
    rw [Rect.emb_apply]; simp [offIn]
  have e1 : ((rIn k).emb j 1).val = (j 1).val := by
    rw [Rect.emb_apply]; simp [offIn]
  unfold part cat
  have hk : (⟨((rIn k).emb j 0).val / 128, by have : ((rIn k).emb j 0).val < 256 := ((rIn k).emb j 0).isLt; omega⟩ : Fin 2) = k :=
    Fin.ext (by show ((rIn k).emb j 0).val / 128 = k.val; rw [e0]; omega)
  rw [hk]
  refine congrArg (G k) (funext fun a => ?_)
  match a with
  | 0 => exact Fin.ext (by show ((rIn k).emb j 0).val % 128 = (j 0).val; rw [e0]; omega)
  | 1 => exact Fin.ext e1

/-- A whole buffer's contents from its eighteen halves'. -/
def glue (G : Pair × Fin 2 → SH.Idx → α) : SW.Idx → α := fun i =>
  G ((⟨(i 1).val / 512, by have : (i 1).val < 1536 := (i 1).isLt; omega⟩, ⟨(i 0).val / 512, by have : (i 0).val < 1536 := (i 0).isLt; omega⟩),
      ⟨(i 0).val % 512 / 256, by omega⟩)
    (fun a => match a with
      | 0 => ⟨(i 0).val % 256, Nat.mod_lt _ (by decide)⟩
      | 1 => ⟨(i 1).val % 512, Nat.mod_lt _ (by decide)⟩)

theorem glue_emb (G : Pair × Fin 2 → SH.Idx → α) (t : Pair × Fin 2) (j : SH.Idx) : glue G ((rHalf t.1.1 t.1.2 t.2).emb j) = G t j := by
  obtain ⟨⟨ci, p⟩, h⟩ := t
  have h0 : (j 0).val < 256 := (j 0).isLt
  have h1 : (j 1).val < 512 := (j 1).isLt
  have e0 : ((rHalf ci p h).emb j 0).val = 512 * p.val + 256 * h.val + (j 0).val := by
    rw [Rect.emb_apply]; simp [offHalf]
  have e1 : ((rHalf ci p h).emb j 1).val = 512 * ci.val + (j 1).val := by
    rw [Rect.emb_apply]; simp [offHalf]
  unfold glue
  refine congr (congrArg G (Prod.ext (Prod.ext (Fin.ext ?_) (Fin.ext ?_)) (Fin.ext ?_))) (funext fun a => ?_)
  · show ((rHalf ci p h).emb j 1).val / 512 = ci.val; rw [e1]; omega
  · show ((rHalf ci p h).emb j 0).val / 512 = p.val; rw [e0]; omega
  · show ((rHalf ci p h).emb j 0).val % 512 / 256 = h.val; rw [e0]; omega
  · match a with
    | 0 => exact Fin.ext (by show ((rHalf ci p h).emb j 0).val % 256 = (j 0).val; rw [e0]; omega)
    | 1 => exact Fin.ext (by show ((rHalf ci p h).emb j 1).val % 512 = (j 1).val; rw [e1]; omega)

theorem half_disjoint (t t' : Pair × Fin 2) (h : t ≠ t') : Disjoint (rHalf t.1.1 t.1.2 t.2).set (rHalf t'.1.1 t'.1.2 t'.2).set := by
  rw [Finset.disjoint_left]
  intro i hi hi'
  rw [Rect.mem_set_unit] at hi hi'
  obtain ⟨⟨ci, p⟩, k⟩ := t
  obtain ⟨⟨ci', p'⟩, k'⟩ := t'
  have a0 := hi 0; have a1 := hi 1; have b0 := hi' 0; have b1 := hi' 1
  simp [offHalf] at a0 a1 b0 b1
  refine h (Prod.ext (Prod.ext (Fin.ext ?_) (Fin.ext ?_)) (Fin.ext ?_)) <;> dsimp only <;> omega

theorem half_cover : (Finset.univ : Finset (Pair × Fin 2)).biUnion (fun t => (rHalf t.1.1 t.1.2 t.2).set) = Finset.univ := by
  refine Finset.eq_univ_of_forall fun i => Finset.mem_biUnion.mpr ?_
  have h0 : (i 0).val < 1536 := (i 0).isLt
  have h1 : (i 1).val < 1536 := (i 1).isLt
  refine ⟨((⟨(i 1).val / 512, by omega⟩, ⟨(i 0).val / 512, by omega⟩), ⟨(i 0).val % 512 / 256, by omega⟩), Finset.mem_univ _, ?_⟩
  rw [Rect.mem_set_unit]
  intro a
  match a with
  | 0 => simp [offHalf]; omega
  | 1 => simp [offHalf]; omega

theorem in_disjoint (k k' : Fin 2) (h : k ≠ k') : Disjoint (rIn k).set (rIn k').set := by
  rw [Finset.disjoint_left]
  intro i hi hi'
  rw [Rect.mem_set_unit] at hi hi'
  have a0 := hi 0; have b0 := hi' 0
  simp [offIn] at a0 b0
  exact h (Fin.ext (by omega))

theorem in_cover : (Finset.univ : Finset (Fin 2)).biUnion (fun k => (rIn k).set) = Finset.univ := by
  refine Finset.eq_univ_of_forall fun i => Finset.mem_biUnion.mpr ?_
  have h0 : (i 0).val < 256 := (i 0).isLt
  have h1 : (i 1).val < 512 := (i 1).isLt
  refine ⟨⟨(i 0).val / 128, by omega⟩, Finset.mem_univ _, ?_⟩
  rw [Rect.mem_set_unit]
  intro a
  match a with
  | 0 => simp [offIn]; omega
  | 1 => simp [offIn]; exact h1

section Split

variable {nD : Nat} {τ : Topo} {sig : RefSig} {Ix : Type} [DecidableEq Ix]
variable {Val : EltTy → Type} [∀ e, Nonempty (Val e)] {Name : Type} [DecidableEq Name]
variable {U : Type} [URA U] {Lvl : Type}
local notation "𝕄" => MT nD τ sig Ix Val Name U Lvl
variable (c : Thread nD τ) {sp : Space} {e : EltTy} (m : Memref sig c.2.kind sp SW e) (q : PosShare TreeShare)

/-- The half and the quarter of a whole memref. -/
abbrev half (ci p : Fin 3) (h : Fin 2) : Memref sig c.2.kind sp SH e := m.slice (rHalf ci p h) (fun _ => rfl)
abbrev quart (ci p : Fin 3) (h k : Fin 2) : Memref sig c.2.kind sp SQ e := m.slice (rQuart ci p h k) (fun _ => rfl)

theorem other_ne (k : Fin 2) : 1 - k ≠ k := by revert k; decide

omit [∀ e, Nonempty (Val e)] in
theorem two_sep (Φ : Fin 2 → sProp 𝕄) (k : Fin 2) : bigSep Finset.univ Φ = iprop(Φ k ∗ Φ (1 - k)) := by
  rw [bigSep_univ_eq_bigSepL [k, 1 - k] (by revert k; decide) (by revert k; decide), bigSepL_cons_cons, bigSepL_singleton]
  rfl

omit [∀ e, Nonempty (Val e)] in
/-- A half is its two quarters. -/
theorem half_split (ci p : Fin 3) (h k : Fin 2) (X : SH.Idx → Val e) :
    (owns c (half c m ci p h) q X : sProp 𝕄) ⊢ iprop(owns c (quart c m ci p h k) q (part k X) ∗ owns c (quart c m ci p h (1 - k)) q (part (1 - k) X)) := by
  have H := owns_rects (Ix := Ix) (Val := Val) (Name := Name) (U := U) (Lvl := Lvl) c (half c m ci p h) q (fun k => rIn k) (fun _ _ => rfl) in_disjoint in_cover X
  rw [two_sep _ k] at H
  refine H.trans ?_
  rw [← owns_slice_slice c m (off := offHalf ci p h) (off' := offIn k) (off'' := offQuart ci p h k) (offHalf_inb ci p h) (offIn_inb k) (offQuart_inb ci p h k)
      (off_sum ci p h _),
    ← owns_slice_slice c m (off := offHalf ci p h) (off' := offIn (1 - k)) (off'' := offQuart ci p h (1 - k)) (offHalf_inb ci p h) (offIn_inb (1 - k)) (offQuart_inb ci p h (1 - k))
      (off_sum ci p h _)]
  exact .rfl

theorem half_join (ci p : Fin 3) (h k : Fin 2) (X : SH.Idx → Val e) :
    iprop(owns c (quart c m ci p h k) q (part k X) ∗ owns c (quart c m ci p h (1 - k)) q (part (1 - k) X)) ⊢ (owns c (half c m ci p h) q X : sProp 𝕄) := by
  have H := owns_of_rects (Ix := Ix) (Val := Val) (Name := Name) (U := U) (Lvl := Lvl) c (half c m ci p h) q (fun k => rIn k) (fun _ _ => rfl) in_disjoint in_cover X
  rw [two_sep _ k] at H
  refine BIBase.Entails.trans ?_ H
  rw [← owns_slice_slice c m (off := offHalf ci p h) (off' := offIn k) (off'' := offQuart ci p h k) (offHalf_inb ci p h) (offIn_inb k) (offQuart_inb ci p h k)
      (off_sum ci p h _),
    ← owns_slice_slice c m (off := offHalf ci p h) (off' := offIn (1 - k)) (off'' := offQuart ci p h (1 - k)) (offHalf_inb ci p h) (offIn_inb (1 - k)) (offQuart_inb ci p h (1 - k))
      (off_sum ci p h _)]
  exact .rfl

/-- Two quarters, at the parts of any family, are the half. -/
theorem half_cat (ci p : Fin 3) (h k : Fin 2) (G : Fin 2 → SQ.Idx → Val e) :
    iprop(owns c (quart c m ci p h k) q (G k) ∗ owns c (quart c m ci p h (1 - k)) q (G (1 - k))) ⊢ (owns c (half c m ci p h) q (cat G) : sProp 𝕄) := by
  have H := half_join (Ix := Ix) (Val := Val) (Name := Name) (U := U) (Lvl := Lvl) c m q ci p h k (cat G)
  rw [part_cat, part_cat] at H
  exact H

/-- Two quarters at any contents are the half at some. -/
theorem half_join_any (ci p : Fin 3) (h k : Fin 2) :
    iprop((∃ X, owns c (quart c m ci p h k) q X) ∗ (∃ X, owns c (quart c m ci p h (1 - k)) q X)) ⊢ (iprop(∃ X, owns c (half c m ci p h) q X) : sProp 𝕄) := by
  iintro ⟨⟨%X, H1⟩, ⟨%Y, H2⟩⟩
  have H := half_cat (Ix := Ix) (Val := Val) (Name := Name) (U := U) (Lvl := Lvl) c m q ci p h k (fun j => if j = k then X else Y)
  rw [if_pos rfl, if_neg (other_ne _)] at H
  iexists (cat fun j => if j = k then X else Y)
  iapply H
  isplitl [H1] <;> iassumption

omit [∀ e, Nonempty (Val e)] in
/-- A whole buffer is, for each pair, the half k and the other one. -/
theorem whole_split (k : Pair → Fin 2) (X : SW.Idx → Val e) :
    (owns c m q X : sProp 𝕄) ⊢ bigSep Finset.univ fun t : Pair => iprop((∃ Y, owns c (half c m t.1 t.2 (k t)) q Y) ∗ (∃ Y, owns c (half c m t.1 t.2 (1 - k t)) q Y)) := by
  refine (owns_rects c m q (fun t : Pair × Fin 2 => rHalf t.1.1 t.1.2 t.2) (fun _ _ => rfl) half_disjoint half_cover X).trans ?_
  rw [bigSep_univ_prod (α := Pair) (β := Fin 2)]
  refine bigSep_mono fun t _ => ?_
  rw [two_sep _ (k t)]
  show (_ : sProp 𝕄) ⊢ _
  iintro ⟨H1, H2⟩
  isplitl [H1]
  · iexists _; iexact H1
  · iexists _; iexact H2

/-- The halves of a whole buffer at known contents are the buffer. -/
theorem whole_join (k : Pair → Fin 2) (G : Pair × Fin 2 → SH.Idx → Val e) :
    (bigSep Finset.univ (fun t : Pair => iprop(owns c (half c m t.1 t.2 (k t)) q (G (t, k t)) ∗ owns c (half c m t.1 t.2 (1 - k t)) q (G (t, 1 - k t)))) : sProp 𝕄)
      ⊢ (owns c m q (glue G) : sProp 𝕄) := by
  refine BIBase.Entails.trans ?_ (owns_of_rects c m q (fun t : Pair × Fin 2 => rHalf t.1.1 t.1.2 t.2) (fun _ _ => rfl) half_disjoint half_cover (glue G))
  simp only [glue_emb]
  rw [bigSep_univ_prod (α := Pair) (β := Fin 2)]
  refine bigSep_mono fun t _ => ?_
  rw [two_sep (nD := nD) (τ := τ) (sig := sig) (Ix := Ix) (Val := Val) (Name := Name) (U := U) (Lvl := Lvl) _ (k t)]
  exact Idealize.SL.BI.Entails.refl _

/-- The halves of a whole buffer at any contents are the buffer at some. -/
theorem whole_join_any (k : Pair → Fin 2) :
    (bigSep Finset.univ (fun t : Pair => iprop((∃ Y, owns c (half c m t.1 t.2 (k t)) q Y) ∗ (∃ Y, owns c (half c m t.1 t.2 (1 - k t)) q Y))) : sProp 𝕄)
      ⊢ (iprop(∃ X, owns c m q X) : sProp 𝕄) := by
  have h1 : (bigSep Finset.univ (fun t : Pair => iprop((∃ Y, owns c (half c m t.1 t.2 (k t)) q Y) ∗ (∃ Y, owns c (half c m t.1 t.2 (1 - k t)) q Y))) : sProp 𝕄)
      ⊢ ((bigSep Finset.univ fun t : Pair × Fin 2 => iprop(∃ Y, owns c (half c m t.1.1 t.1.2 t.2) q Y)) : sProp 𝕄) := by
    rw [bigSep_univ_prod (α := Pair) (β := Fin 2)]
    refine bigSep_mono fun t _ => ?_
    rw [two_sep (nD := nD) (τ := τ) (sig := sig) (Ix := Ix) (Val := Val) (Name := Name) (U := U) (Lvl := Lvl) _ (k t)]
    exact Idealize.SL.BI.Entails.refl _
  refine h1.trans ((bigSep_exists_pi _ _).trans ?_)
  iintro ⟨%G, H⟩
  iexists glue G
  iapply (owns_of_rects c m q (fun t : Pair × Fin 2 => rHalf t.1.1 t.1.2 t.2) (fun _ _ => rfl) half_disjoint half_cover (glue G))
  simp only [glue_emb]
  iexact H

end Split

end Cert.Blocks
end
-- ==== Proof.Sched.lean ====
/-
  What the devices exchange.

  Contents: what each pair computes at each of its steps, from the blocks of A and B of every device. Cells: a device's barrier cell, and
  for each of the 45 copies a send cell and a receive cell. The schedule says who raises each cell, by how much, and what the raise hands
  over: a barrier signal along an axis hands over the buffers that the copies along that axis write; a departure gives the source back; an
  arrival hands over the buffer that the neighbour's copy wrote. At the end, what a device owes the others, and the order of the waits.
-/
module

public import proofs.«01_k».proof.Proof.Steps
public import proofs.«01_k».proof.Proof.Blocks
public import Idealize.ShloMosaic.Lib.Pipeline.Launch

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Blocks

variable {F : FTy → Type} [FloatOps F]

/-! ## The cube -/

theorem nbr_nbr : ∀ a d, nbr a (nbr a d) = d := by decide +kernel
theorem bit_nbr : ∀ a d, bit a (nbr a d) = 1 - bit a d := by decide +kernel
theorem bit_nbr_ne : ∀ a a' d, a ≠ a' → bit a (nbr a' d) = bit a d := by decide +kernel
theorem ax01 : ∀ p, ax 1 p ≠ ax 0 p := by decide +kernel
theorem ax3 (p : Fin 3) : ax 3 p = ax 1 p := rfl
theorem ax4 (p : Fin 3) : ax 4 p = ax 0 p := rfl

/-- The half of its row block, and the quarter of that half, that a device reduces. -/
abbrev b0 (p : Fin 3) (d : Dev nD) : Fin 2 := bit (ax 0 p) d
abbrev b1 (p : Fin 3) (d : Dev nD) : Fin 2 := bit (ax 1 p) d

/-! ## Contents -/

section Contents

variable (XA : Dev nD → Vec F S1536x768 .bf16) (XB : Dev nD → Vec F S768x1536 .bf16)

/-- A column block of a device's block of B. -/
def colB (ci : Fin 3) (d : Dev nD) : FVec F S768x512 .bf16 :=
  match ci with
  | 0 => k0_pay1 fun j => XB d (rB0.emb j)
  | 1 => k0_pay2 fun j => XB d (rB1.emb j)
  | 2 => k0_pay3 fun j => XB d (rB2.emb j)

/-- The product of the half that is sent, and of the half that is kept. -/
def P0 (ci p : Fin 3) (d : Dev nD) : Vec F S256x512 .bf16 := k0_pay4 (colB XB ci d) fun j => XA d ((rAs p d).emb j)
def Z0 (ci p : Fin 3) (d : Dev nD) : Vec F S256x512 .f32 := k0_pay14 (colB XB ci d) fun j => XA d ((rAk p d).emb j)
/-- After the first exchange: the quarter that is sent on, and the quarter that is kept. -/
def S1 (ci p : Fin 3) (d : Dev nD) : Vec F S128x512 .bf16 :=
  k0_pay24 (part (1 - b1 p d) (Z0 XA XB ci p d)) (part (1 - b1 p d) (P0 XA XB ci p (nbr (ax 0 p) d)))
def Z1 (ci p : Fin 3) (d : Dev nD) : Vec F S128x512 .f32 :=
  k0_pay27 (part (b1 p d) (Z0 XA XB ci p d)) (part (b1 p d) (P0 XA XB ci p (nbr (ax 0 p) d)))
/-- After the second exchange: the quarter that is sent, and the quarter that is kept. -/
def S2 (ci p : Fin 3) (d : Dev nD) : Vec F S128x512 .bf16 := k0_pay24 (Z1 XA XB ci p d) (S1 XA XB ci p (nbr (ax 1 p) d))
def Z2 (ci p : Fin 3) (d : Dev nD) : Vec F S128x512 .f32 := k0_pay27 (Z1 XA XB ci p d) (S1 XA XB ci p (nbr (ax 1 p) d))
/-- After the third: a device's quarter of the result. -/
def fin (ci p : Fin 3) (d : Dev nD) : Vec F S128x512 .bf16 := k0_pay64 (Z2 XA XB ci p d) (S2 XA XB ci p (nbr (ax 2 p) d))
/-- A device's half of the result: its own quarter and its neighbour's. -/
def halfv (ci p : Fin 3) (d : Dev nD) : Vec F S256x512 .bf16 :=
  cat fun k => if k = b1 p d then fin XA XB ci p d else fin XA XB ci p (nbr (ax 3 p) d)
/-- The result on a device. -/
def out (d : Dev nD) : Vec F S1536x1536 .bf16 :=
  glue fun t => if t.2 = b0 t.1.2 d then halfv XA XB t.1.1 t.1.2 d else halfv XA XB t.1.1 t.1.2 (nbr (ax 4 t.1.2) d)

/-- The shape of a copy. -/
abbrev csh (s : Fin 5) : Shape :=
  match s with
  | 0 => S256x512
  | 1 => S128x512
  | 2 => S128x512
  | 3 => S128x512
  | 4 => S256x512

/-- What a copy carries. -/
abbrev cont (x : Copy) (d : Dev nD) : Vec F (csh x.1) .bf16 :=
  match x with
  | (0, ci, p) => P0 XA XB ci p d
  | (1, ci, p) => S1 XA XB ci p d
  | (2, ci, p) => S2 XA XB ci p d
  | (3, ci, p) => fin XA XB ci p d
  | (4, ci, p) => halfv XA XB ci p d

end Contents

/-- Where a copy of device d comes from, and where it lands on the neighbour. -/
abbrev src (x : Copy) (d : Dev nD) : Memref sig .tc .vmem (csh x.1) .bf16 :=
  match x with
  | (0, ci, p) => sM0 ci p
  | (1, ci, p) => sM1 ci p
  | (2, ci, p) => sM2 ci p
  | (3, ci, p) => oQ ci p d
  | (4, ci, p) => oH ci p d
abbrev dst (x : Copy) (d : Dev nD) : Memref sig .tc .vmem (csh x.1) .bf16 :=
  match x with
  | (0, ci, p) => rM0 ci p
  | (1, ci, p) => rM1 ci p
  | (2, ci, p) => rM2 ci p
  | (3, ci, p) => oQ ci p d
  | (4, ci, p) => oH ci p d

theorem src_words (x : Copy) (d : Dev nD) : (src x d).view.WordExact :=
  match x with
  | (0, ci, p) => (sM0_whole ci p).wordExact
  | (1, ci, p) => (sM1_whole ci p).wordExact
  | (2, ci, p) => (sM2_whole ci p).wordExact
  | (3, ci, p) => oQ_words ci p d
  | (4, ci, p) => oH_words ci p d
theorem dst_words (x : Copy) (d : Dev nD) : (dst x d).view.WordExact :=
  match x with
  | (0, ci, p) => (rM0_whole ci p).wordExact
  | (1, ci, p) => (rM1_whole ci p).wordExact
  | (2, ci, p) => (rM2_whole ci p).wordExact
  | (3, ci, p) => oQ_words ci p d
  | (4, ci, p) => oH_words ci p d

/-- The credit of a copy. -/
def cN (s : Fin 5) : ℕ :=
  match s with
  | 0 => (rM0 0 0).view.dmaCredit
  | 1 => (rM1 0 0).view.dmaCredit
  | 2 => (rM2 0 0).view.dmaCredit
  | 3 => (rM1 0 0).view.dmaCredit
  | 4 => (rM0 0 0).view.dmaCredit

theorem src_credit (x : Copy) (d : Dev nD) : (src x d).view.dmaCredit = cN x.1 := by
  obtain ⟨s, ci, p⟩ := x
  fin_cases s <;> fin_cases ci <;> fin_cases p <;> rfl
theorem dst_credit (x : Copy) (d : Dev nD) : (dst x d).view.dmaCredit = cN x.1 := by
  obtain ⟨s, ci, p⟩ := x
  fin_cases s <;> fin_cases ci <;> fin_cases p <;> rfl
theorem csh_numel : ∀ s : Fin 5, 0 < (csh s).numel := by decide +kernel
theorem cN_pos (s : Fin 5) : 0 < cN s := by
  rw [← dst_credit (s, 0, 0) 0]; exact View.dmaCredit_pos _ (csh_numel s)

/-! ## The resource algebra and the cells -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A device's cells: the barrier, and the send and receive cell of each copy. -/
abbrev CIdx : Type := Option (Bool × Copy)

def csem : CIdx → SemLoc sig
  | none => .reg barS
  | some (false, x) => .dma (sS x)
  | some (true, x) => .dma (rS x)

theorem sS_injective : ∀ x y : Copy, sS x = sS y → x = y := by decide +kernel
theorem rS_injective : ∀ x y : Copy, rS x = rS y → x = y := by decide +kernel
theorem sS_ne_rS : ∀ x y : Copy, sS x ≠ rS y := by decide +kernel

theorem csem_injective : Function.Injective csem := by
  rintro (_ | ⟨_ | _, x⟩) (_ | ⟨_ | _, y⟩) h
  · rfl
  · cases h
  · cases h
  · cases h
  · rw [sS_injective x y (SemLoc.dma.inj h)]
  · exact absurd (SemLoc.dma.inj h) (sS_ne_rS x y)
  · cases h
  · exact absurd (SemLoc.dma.inj h).symm (sS_ne_rS y x)
  · rw [rS_injective x y (SemLoc.dma.inj h)]

/-- The cell index of a semaphore, if it is one of the cells. -/
def cidx (sm : SemLoc sig) : Option CIdx := if h : ∃ k, csem k = sm then some h.choose else none

theorem cidx_csem (k : CIdx) : cidx (csem k) = some k := by
  have h : ∃ k', csem k' = csem k := ⟨k, rfl⟩
  unfold cidx
  rw [dif_pos h]
  exact congrArg some (csem_injective h.choose_spec)

abbrev kcell (ck : Dev nD × CIdx) : GSem nD τ sig := ((ck.1 : Thread nD τ), csem ck.2)
abbrev barC (d : Dev nD) : GSem nD τ sig := kcell (d, none)
abbrev sendC (x : Copy) (d : Dev nD) : GSem nD τ sig := kcell (d, some (false, x))
abbrev recvC (x : Copy) (d : Dev nD) : GSem nD τ sig := kcell (d, some (true, x))

theorem kcell_injective : Function.Injective kcell := by
  rintro ⟨d, k⟩ ⟨d', k'⟩ h
  have h1 : (Dev.tc d : Thread nD τ) = Dev.tc d' := congrArg Prod.fst h
  exact Prod.ext (congrArg (fun t : Thread nD τ => t.1) h1) (csem_injective (congrArg Prod.snd h))

/-! ## The schedule -/

section Schedule

variable (XA : Dev nD → Vec F S1536x768 .bf16) (XB : Dev nD → Vec F S768x1536 .bf16)

/-- The copies along an axis. -/
abbrev along (a : Fin 3) : Finset Copy := Finset.univ.filter fun x => ax x.1 x.2.2 = a

/-- Where a copy of device d lands, at any contents. -/
def lands (x : Copy) (d : Dev nD) : sProp 𝕄 := iprop(∃ X, owns (nb x d : Thread nD τ) (dst x d) fullShare X)
/-- What a barrier signal along an axis hands device d. -/
def barPay (a : Fin 3) (d : Dev nD) : sProp 𝕄 := bigSep (along a) fun x => lands x d
/-- What a departure gives back. -/
def sendPay (x : Copy) (d : Dev nD) : sProp 𝕄 := owns (d : Thread nD τ) (src x d) fullShare (cont XA XB x d)
/-- What an arrival hands over. -/
def recvPay (x : Copy) (d : Dev nD) : sProp 𝕄 := owns (d : Thread nD τ) (dst x (nb x d)) fullShare (cont XA XB x (nb x d))

omit [FloatOps F] in
instance barPay_storable (a : Fin 3) (d : Dev nD) : BI.Storable (upEmb : UEmb _ 𝕄) (barPay (F := F) a d) := by
  unfold barPay lands; infer_instance
instance sendPay_storable (x : Copy) (d : Dev nD) : BI.Storable (upEmb : UEmb _ 𝕄) (sendPay XA XB x d) := by
  unfold sendPay; infer_instance
instance recvPay_storable (x : Copy) (d : Dev nD) : BI.Storable (upEmb : UEmb _ 𝕄) (recvPay XA XB x d) := by
  unfold recvPay; infer_instance

def dutiesOf : Option CIdx → Finset (Fin 3)
  | some none => Finset.univ
  | some (some _) => {0}
  | none => ∅
def amountOf : Option CIdx → ℕ
  | some (some (_, x)) => cN x.1
  | _ => 1
def payOf (k : Option CIdx) (d : Dev nD) (a : Fin 3) : sProp 𝕄 :=
  match k with
  | some none => barPay a d
  | some (some (false, x)) => sendPay XA XB x d
  | some (some (true, x)) => recvPay XA XB x d
  | none => iprop(emp)

/-- One round: the barrier is raised by the three neighbours, a send or receive cell by its copy. -/
def sched : Rounds.Schedule (GSem nD τ sig) (Fin 3) 𝕄 where
  duties g r := if r = 0 ∧ g.1.2 = .tc then dutiesOf (cidx g.2) else ∅
  amount g _ _ := amountOf (cidx g.2)
  payload g _ a := payOf XA XB (cidx g.2) g.1.1 a
  unitless _ := False
  amount_pos g _ _ _ := by
    match cidx g.2 with
    | some none => exact Nat.one_pos
    | some (some (_, x)) => exact cN_pos x.1
    | none => exact Nat.one_pos

instance sched_storable (g : GSem nD τ sig) (r : ℕ) (a : Fin 3) : BI.Storable (upEmb : UEmb _ 𝕄) ((sched XA XB).payload g r a) := by
  show BI.Storable upEmb (payOf XA XB (cidx g.2) g.1.1 a)
  unfold payOf
  split <;> infer_instance

theorem duties_at (d : Dev nD) (k : CIdx) : (sched XA XB).duties (kcell (d, k)) 0 = dutiesOf (some k) := by
  dsimp only [sched]
  rw [if_pos ⟨rfl, rfl⟩, cidx_csem]
theorem duties_later (g : GSem nD τ sig) : ∀ r, 1 ≤ r → (sched XA XB).duties g r = ∅ :=
  fun r hr => if_neg fun h => by omega
theorem amount_at (d : Dev nD) (k : CIdx) (r : ℕ) (a : Fin 3) : (sched XA XB).amount (kcell (d, k)) r a = amountOf (some k) := by
  show amountOf (cidx (csem k)) = _; rw [cidx_csem]
theorem payload_at (d : Dev nD) (k : CIdx) (r : ℕ) (a : Fin 3) : (sched XA XB).payload (kcell (d, k)) r a = payOf XA XB (some k) d a := by
  show payOf XA XB (cidx (csem k)) d a = _; rw [cidx_csem]
theorem expect_bar (d : Dev nD) : (sched XA XB).expect (barC d) 0 = 3 := by
  unfold Schedule.expect Schedule.amountOf
  rw [duties_at, Finset.sum_congr rfl fun a _ => amount_at XA XB d none 0 a]
  rfl
theorem expect_copy (d : Dev nD) (b : Bool) (x : Copy) : (sched XA XB).expect (kcell (d, some (b, x))) 0 = cN x.1 := by
  unfold Schedule.expect Schedule.amountOf
  rw [duties_at, Finset.sum_congr rfl fun a _ => amount_at XA XB d (some (b, x)) 0 a]
  exact Finset.sum_singleton _ _
theorem rest_bar (d : Dev nD) : bigSep ((sched XA XB).duties (barC d) 0 \ ∅) (fun a => (sched XA XB).payload (barC d) 0 a) = bigSep Finset.univ fun a => barPay (F := F) a d := by
  rw [Finset.sdiff_empty, duties_at]
  exact bigSep_congr fun a _ => payload_at XA XB d none 0 a
theorem rest_copy (d : Dev nD) (b : Bool) (x : Copy) :
    bigSep ((sched XA XB).duties (kcell (d, some (b, x))) 0 \ ∅) (fun a => (sched XA XB).payload (kcell (d, some (b, x))) 0 a) = payOf XA XB (some (some (b, x))) d 0 := by
  rw [Finset.sdiff_empty, duties_at]
  show bigSep {0} _ = _
  rw [bigSep_singleton, payload_at]

end Schedule

/-! ## What is owed, and the levels -/

/-- What a device does for another one: a barrier signal along an axis, or a copy. -/
abbrev Item : Type := Fin 3 ⊕ Copy

/-- The cell an item raises, by how much, and its level. -/
def itemCell (d : Dev nD) : Item → GSem nD τ sig
  | .inl a => barC (nbr a d)
  | .inr x => recvC x (nb x d)
def itemN : Item → ℕ
  | .inl _ => 1
  | .inr x => cN x.1
def itemLv : Item → ℕ
  | .inl _ => 1
  | .inr x => 2 + x.1.val

/-- What a device still owes, by the list of what it has to do. -/
def owed (d : Dev nD) : List Item → CellTallies nD τ sig Unit
  | [] => 0
  | i :: l => owed d l + tallyAt (itemCell d i) () (itemN i)

/-- Barrier cells are at level 1, receive cells above them by step; the others at 0. -/
def lvOf : Option CIdx → ℕ
  | some none => 1
  | some (some (true, x)) => 2 + x.1.val
  | _ => 0
def L (g : GSem nD τ sig) : Finset Unit := if g.1.2 = .tc then {()} else ∅
def lv (g : GSem nD τ sig) (_ : Unit) : ℕ := lvOf (cidx g.2)

theorem L_of_ne (g : GSem nD τ sig) (h : g.1.2 ≠ .tc) : L g = ∅ := if_neg h
theorem L_tc (d : Dev nD) (sm : SemLoc sig) : L ((d : Thread nD τ), sm) = {()} := if_pos rfl
theorem lv_at (d : Dev nD) (k : CIdx) (u : Unit) : lv (kcell (d, k)) u = lvOf (some k) := by
  show lvOf (cidx (csem k)) = _; rw [cidx_csem]
theorem lv_item (d : Dev nD) (i : Item) (u : Unit) : lv (itemCell d i) u = itemLv i := by
  match i with
  | .inl a => exact lv_at _ _ _
  | .inr x => exact lv_at _ _ _

theorem owed_pos (d : Dev nD) (l : List Item) {g : GSem nD τ sig} {u : Unit} (h : 0 < owed d l g u) : ∃ i ∈ l, g = itemCell d i := by
  induction l with
  | nil => exact absurd h (Nat.lt_irrefl 0)
  | cons i l ih =>
    unfold owed at h
    rw [Pi.add_apply, Finsupp.add_apply, tallyAt_apply] at h
    by_cases hg : g = itemCell d i ∧ u = ()
    · exact ⟨i, List.mem_cons_self, hg.1⟩
    · rw [if_neg hg, Nat.add_zero] at h
      obtain ⟨j, hj, e⟩ := ih h
      exact ⟨j, List.mem_cons_of_mem _ hj, e⟩

omit [FloatOps F] in
/-- A device may wait on a cell of its own below everything it owes. -/
theorem mayWait (d : Dev nD) (sm : SemLoc sig) (l : List Item) (n : ℕ) (hn : lv ((d : Thread nD τ), sm) () ≤ n) (h : ∀ i ∈ l, n < itemLv i) :
    (levAts L lv : sProp 𝕄) ⊢ MayWait (d : Thread nD τ) sm () (owed d l) :=
  MayOwe.of_cut (L := L) (lev := lv) n (fun p hp => by rw [Finset.mem_singleton.mp hp, L_tc]; exact Finset.mem_singleton_self _)
    (fun g u hg => by
      obtain ⟨i, -, rfl⟩ := owed_pos d l hg
      match i with
      | .inl a => exact Finset.mem_singleton_self _
      | .inr x => exact Finset.mem_singleton_self _)
    (fun p hp => by rw [Finset.mem_singleton.mp hp]; exact hn)
    (fun g u hg => by obtain ⟨i, hi, rfl⟩ := owed_pos d l hg; rw [lv_item]; exact h i hi)

/-- The copy that a step sends, and the one it waits for. -/
def sends : Step → Option Copy
  | (0, x) => some (0, x)
  | (2, x) => some (1, x)
  | (4, x) => some (2, x)
  | (6, x) => some (3, x)
  | (7, x) => some (4, x)
  | _ => none
def awaits : Step → Option Copy
  | (2, x) => some (0, x)
  | (4, x) => some (1, x)
  | (6, x) => some (2, x)
  | (7, x) => some (3, x)
  | (8, x) => some (4, x)
  | _ => none

/-- The copies that a list of steps has to make. -/
def todo (l : List Step) : List Item := (l.filterMap sends).map .inr

end Cert.KernelIdeal.Proof
end
-- ==== Proof.Pairs.lean ====
/-
  A pair's nine steps.

  The state of a pair (ci, p) on a device after n steps, and the theorem that each step takes the state after n steps to the state after
  n + 1. A copy goes through three phases: ready (its destination, its tokens and its waits are held), sent, and done.
-/
module

public import proofs.«01_k».proof.Proof.Sched

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Blocks

variable {F : FTy → Type} [FloatOps F]

local notation "𝕄" => MT nD τ sig Unit (Elt F) ℕ UU ℕ

abbrev 𝒱₀ : Variants := Variants.none

variable (XA : Dev nD → Vec F S1536x768 .bf16) (XB : Dev nD → Vec F S768x1536 .bf16) (K : Dev nD × CIdx → ℕ)

/-! ## A copy's resources -/

/-- The record of every cell: its invariant, and that its first round is open. -/
def recs : sProp 𝕄 := bigSep Finset.univ fun ck : Dev nD × CIdx => iprop(cellInv ER (sched XA XB) (K ck) (kcell ck) ∗ reached ER (kcell ck) 0)

instance recs_persistent : BI.Persistent (recs XA XB K) := by unfold recs; infer_instance

theorem recs_at (ck : Dev nD × CIdx) : recs XA XB K ⊢ iprop(cellInv ER (sched XA XB) (K ck) (kcell ck) ∗ reached ER (kcell ck) 0) := by
  unfold recs; exact bigSep_elim (Finset.mem_univ ck)

/-- The tokens to raise a copy's two cells. -/
def tokS (x : Copy) (d : Dev nD) : sProp 𝕄 := iprop(dutyTok ER (sendC x d) 0 0 ∗ dutyTok ER (recvC x (nb x d)) 0 0)
/-- What a device needs for its two waits, but for the credit of its own send. -/
def waitS (x : Copy) (d : Dev nD) : sProp 𝕄 := iprop(atPos ER (sendC x d) 0 ∅ 0 ∗ atPos ER (recvC x d) 0 ∅ 0 ∗ cred (tallyAt (recvC x d) () (cN x.1)))
def ready (x : Copy) (d : Dev nD) : sProp 𝕄 := iprop(lands x d ∗ tokS x d ∗ waitS x d)
def sent (x : Copy) (d : Dev nD) : sProp 𝕄 := iprop(waitS x d ∗ cred (tallyAt (sendC x d) () (cN x.1)))
def done (x : Copy) (d : Dev nD) : sProp 𝕄 := iprop(atPos ER (sendC x d) 1 ∅ 0 ∗ atPos ER (recvC x d) 1 ∅ 0)
/-- What a device owes, whatever it has waited for. -/
def debt (d : Dev nD) (l : List Item) : sProp 𝕄 := iprop(∃ W, owes (d : Thread nD τ) (owed d l) W)

/-- The proof obligation of a program of the body. -/
abbrev WP (d : Dev nD) (k : Body F) (Q : PUnit → sProp 𝕄) : sProp 𝕄 := wp frame (wpE (defs₀ (F := F)) 𝒱₀ (d : Thread nD τ) none) Set.univ k Q

variable {Q : PUnit → sProp (MT nD τ sig Unit (Elt F) ℕ UU ℕ)}

/-- A copy: the source and the destination go, the credit of the departure comes. -/
theorem wp_copy (x : Copy) (d e : Dev nD) (he : e = nb x d) (l : List Item)
    {hsc : (dst x d : Memref sig (Dev.tc e : Thread nD τ).2.kind .vmem (csh x.1) .bf16).view.ref.isScScratch = false}
    {hsrc : (src x d).view.WordExact} {hdst : (dst x d).view.WordExact}
    {hsem : DmaTarget.Typed .vmem (.dma (rS x)) (.remote (Dev.tc e : Thread nD τ) (dst x d : Memref sig (Dev.tc e : Thread nD τ).2.kind .vmem (csh x.1) .bf16) (.dma (sS x)) hsc)}
    {k : PUnit → Body F} :
    iprop(recs XA XB K ∗ sendPay XA XB x d ∗ ready x d ∗ debt d (.inr x :: l))
      ⊢ iprop((sent x d ∗ debt d l -∗ WP d (k ⟨⟩) Q)
          -∗ WP d (.op (.enqueueDma (src x d) (.remote (Dev.tc e : Thread nD τ) (dst x d : Memref sig (Dev.tc e : Thread nD τ).2.kind .vmem (csh x.1) .bf16) (.dma (sS x)) hsc) (.dma (rS x)) hsrc hdst hsem) k) Q) := by
  subst he
  unfold ready tokS lands sendPay debt sent
  iintro ⟨#HR, Hs, ⟨⟨%X, Hd⟩, ⟨Ht1, Ht2⟩, Hw⟩, ⟨%W, HO⟩⟩ Hk
  ihave H1 := (recs_at XA XB K (d, some (false, x))) $$ HR
  icases H1 with ⟨#I1, #R1⟩
  ihave H2 := (recs_at XA XB K (nb x d, some (true, x))) $$ HR
  icases H2 with ⟨#I2, #R2⟩
  unfold owns
  icases Hs with ⟨%fs, %hs, Hs⟩
  icases Hd with ⟨%fd, %hd, Hd⟩
  iapply (Rounds.wp_send_pointsTo 𝒱₀ ER (sched XA XB) (d : Thread nD τ) none (κ₁ := K (d, some (false, x))) (κ₂ := K (nb x d, some (true, x)))
    (r₁ := 0) (r₂ := 0) (d₁ := 0) (d₂ := 0) (fs := fs) (fd := fd)
    (by rw [duties_at XA XB d (some (false, x))]; exact Finset.mem_singleton_self _)
    (by rw [duties_at XA XB (nb x d) (some (true, x))]; exact Finset.mem_singleton_self _)
    () () (cN x.1) (by exact dst_credit x d) (amount_at XA XB d (some (false, x)) 0 0) (amount_at XA XB (nb x d) (some (true, x)) 0 0) (owed d l) rfl (W := W)
    (by
      rw [payload_at XA XB d (some (false, x))]
      show _ ⊢ sendPay XA XB x d
      unfold sendPay
      rw [← hs]
      exact owns_intro _ _ _ _)
    (by
      rw [payload_at XA XB (nb x d) (some (true, x))]
      show _ ⊢ recvPay XA XB x (nb x d)
      unfold recvPay
      rw [show nb x (nb x d) = d from nbr_nbr _ d, ← hs]
      unfold owns
      iintro H
      iexists (dst x d).view.write (Elt F) fd ((src x d).view.read (Elt F) fs) Finset.univ
      isplitr
      · ipureintro; exact View.read_write_univ _ _
      · iexact H)) $$ [Hs Hd Ht1 Ht2 HO]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitr [HO]
  · isplitl [Hw]; · iexact Hw
    iexact Hc
  · iexists W; iexact HO

/-- The two waits of a copy: the source comes back, and what the neighbour's copy wrote. -/
theorem wp_waits (x : Copy) (d : Dev nD) (l : List Item) (h : ∀ i ∈ l, 2 + x.1.val < itemLv i) {hs : (src x d).view.WordExact} {hd : (dst x d).view.WordExact} {k : Body F} :
    iprop(recs XA XB K ∗ levAts L lv ∗ sent x d ∗ debt d l)
      ⊢ iprop((done x d ∗ sendPay XA XB x d ∗ recvPay XA XB x d ∗ debt d l -∗ WP d k Q) -∗ WP d (waits x (src x d) (dst x d) hs hd k) Q) := by
  unfold sent waitS debt done waits
  iintro ⟨#HR, #Hl, ⟨⟨Ha1, Ha2, Hc2⟩, Hc1⟩, ⟨%W, HO⟩⟩ Hk
  ihave H1 := (recs_at XA XB K (d, some (false, x))) $$ HR
  icases H1 with ⟨#I1, #R1⟩
  ihave H2 := (recs_at XA XB K (d, some (true, x))) $$ HR
  icases H2 with ⟨#I2, #R2⟩
  iapply (Rounds.wp_wait_rest_token 𝒱₀ ER (sched XA XB) (d : Thread nD τ) none (κ := K (d, some (false, x))) (sm := .dma (sS x)) (k' := cN x.1)
      (fun K' => (wpE_waitDma2_eq 𝒱₀ (d : Thread nD τ) none Set.univ K').trans (by rw [src_credit x d])) (Set.mem_univ _) () (O := owed d l) (W := W) (R := 0) (m := 0) (T := ∅)
      ((Nat.zero_add _).trans (expect_copy XA XB d false x).symm)) $$ [Hc1 HO Ha1]
  · isplitr; · iexact I1
    isplitl [Hc1]; · iexact Hc1
    isplitl [HO]; · iexact HO
    isplitr
    · iapply (mayWait d (.dma (sS x)) l 0 (le_of_eq (lv_at d (some (false, x)) ())) (fun i hi => lt_of_le_of_lt (Nat.zero_le _) (h i hi)))
      iexact Hl
    iexact Ha1
  iintro ⟨HO, Ha1, -, Hp1⟩
  iapply (Rounds.wp_wait_rest_token 𝒱₀ ER (sched XA XB) (d : Thread nD τ) none (κ := K (d, some (true, x))) (sm := .dma (rS x)) (k' := cN x.1)
      (fun K' => (wpE_waitDma2_eq 𝒱₀ (d : Thread nD τ) none Set.univ K').trans (by rw [dst_credit x d])) (Set.mem_univ _) () (O := owed d l) (R := 0) (m := 0) (T := ∅)
      ((Nat.zero_add _).trans (expect_copy XA XB d true x).symm)) $$ [Hc2 HO Ha2]
  · isplitr; · iexact I2
    isplitl [Hc2]; · iexact Hc2
    isplitl [HO]; · iexact HO
    isplitr
    · iapply (mayWait d (.dma (rS x)) l (2 + x.1.val) (le_of_eq (lv_at d (some (true, x)) ())) h)
      iexact Hl
    iexact Ha2
  iintro ⟨HO, Ha2, -, Hp2⟩
  ihave Hp1 := (show bigSep ((sched XA XB).duties ((d : Thread nD τ), .dma (sS x)) 0 \ ∅) (fun a => (sched XA XB).payload ((d : Thread nD τ), .dma (sS x)) 0 a) ⊢ sendPay XA XB x d from
    Entails.of_eq (rest_copy XA XB d false x)) $$ Hp1
  ihave Hp2 := (show bigSep ((sched XA XB).duties ((d : Thread nD τ), .dma (rS x)) 0 \ ∅) (fun a => (sched XA XB).payload ((d : Thread nD τ), .dma (rS x)) 0 a) ⊢ recvPay XA XB x d from
    Entails.of_eq (rest_copy XA XB d true x)) $$ Hp2
  iapply Hk
  isplitl [Ha1 Ha2]
  · isplitl [Ha1]
    · iexact Ha1
    · iexact Ha2
  isplitl [Hp1]; · iexact Hp1
  isplitl [Hp2]; · iexact Hp2
  iexists _; iexact HO

/-! ## A pair's buffers -/

theorem oth_val : ∀ b : Fin 2, oth b = (1 - b).val := by decide

abbrev zH (ci p : Fin 3) (h : Fin 2) (d : Dev nD) (X : Vec F S256x512 .f32) : sProp 𝕄 := owns (d : Thread nD τ) (half (d : Thread nD τ) zM ci p h) fullShare X
abbrev zQ (ci p : Fin 3) (h k : Fin 2) (d : Dev nD) (X : Vec F S128x512 .f32) : sProp 𝕄 := owns (d : Thread nD τ) (quart (d : Thread nD τ) zM ci p h k) fullShare X

theorem rZ_eq (ci p : Fin 3) (d : Dev nD) : zM.slice (rZ ci p d) (fun _ => rfl) = half (d : Thread nD τ) zM ci p (b0 p d) :=
  slice_congr zM (offZ_eq ci p d) _ _
theorem rZs_eq (ci p : Fin 3) (d : Dev nD) : zM.slice (rZs ci p d) (fun _ => rfl) = quart (d : Thread nD τ) zM ci p (b0 p d) (1 - b1 p d) :=
  slice_congr zM ((offZs_eq ci p d).trans (by rw [oth_val])) _ _
theorem rZk_eq (ci p : Fin 3) (d : Dev nD) : zM.slice (rZk ci p d) (fun _ => rfl) = quart (d : Thread nD τ) zM ci p (b0 p d) (b1 p d) :=
  slice_congr zM (offZk_eq ci p d) _ _
theorem rO_eq (ci p : Fin 3) (d : Dev nD) : oM.slice (rZk ci p d) (fun _ => rfl) = oQ ci p d :=
  slice_congr oM ((offZk_eq ci p d).trans (offQ_eq ci p d).symm) _ _
theorem oQ_eq (ci p : Fin 3) (d c : Dev nD) : oQ ci p d = quart (c : Thread nD τ) oM ci p (b0 p d) (b1 p d) :=
  slice_congr oM (offQ_eq ci p d) _ _
theorem oH_eq (ci p : Fin 3) (d c : Dev nD) : oH ci p d = half (c : Thread nD τ) oM ci p (b0 p d) :=
  slice_congr oM (offH_eq ci p d) _ _

theorem part_s (p : Fin 3) (d : Dev nD) {α : Type} (X : S256x512.Idx → α) : (fun j => X ((rRs p d).emb j)) = part (1 - b1 p d) X :=
  read_congr ((offRs_eq p d).trans (by rw [oth_val])) _ (offIn_inb _) X
theorem part_k (p : Fin 3) (d : Dev nD) {α : Type} (X : S256x512.Idx → α) : (fun j => X ((rRk p d).emb j)) = part (b1 p d) X :=
  read_congr (offRk_eq p d) _ (offIn_inb _) X

theorem zeros : ∀ a, (![0, 0] : Fin 2 → ℕ) a = 0 := by decide

/-- A buffer at any contents. -/
abbrev any (d : Dev nD) {s : Shape} {e : EltTy} (m : Memref sig .tc .vmem s e) : sProp 𝕄 := iprop(∃ X, owns (d : Thread nD τ) m fullShare X)

/-- A copy of the pair before it is sent, its source at any contents. -/
def idle (x : Copy) (d : Dev nD) : sProp 𝕄 := iprop(any d (src x d) ∗ ready x d)
/-- A reduce copy once its landing buffer has been read. -/
def spent (x : Copy) (d : Dev nD) : sProp 𝕄 := iprop(done x d ∗ any d (src x d) ∗ any d (dst x (nb x d)))

/-- The state of a pair after n steps. -/
def St (n : Fin 10) (ci p : Fin 3) (d : Dev nD) : sProp 𝕄 :=
  match n with
  | 0 => iprop(any d (half (d : Thread nD τ) zM ci p (b0 p d)) ∗ idle (0, ci, p) d ∗ idle (1, ci, p) d ∗ idle (2, ci, p) d ∗ idle (3, ci, p) d ∗ ready (4, ci, p) d)
  | 1 => iprop(any d (half (d : Thread nD τ) zM ci p (b0 p d)) ∗ sent (0, ci, p) d ∗ idle (1, ci, p) d ∗ idle (2, ci, p) d ∗ idle (3, ci, p) d ∗ ready (4, ci, p) d)
  | 2 => iprop(zH ci p (b0 p d) d (Z0 XA XB ci p d) ∗ sent (0, ci, p) d ∗ idle (1, ci, p) d ∗ idle (2, ci, p) d ∗ idle (3, ci, p) d ∗ ready (4, ci, p) d)
  | 3 => iprop(zH ci p (b0 p d) d (Z0 XA XB ci p d) ∗ (done (0, ci, p) d ∗ any d (sM0 ci p) ∗ recvPay XA XB (0, ci, p) d) ∗ sent (1, ci, p) d
      ∗ idle (2, ci, p) d ∗ idle (3, ci, p) d ∗ ready (4, ci, p) d)
  | 4 => iprop((zQ ci p (b0 p d) (b1 p d) d (Z1 XA XB ci p d) ∗ any d (quart (d : Thread nD τ) zM ci p (b0 p d) (1 - b1 p d))) ∗ spent (0, ci, p) d ∗ sent (1, ci, p) d
      ∗ idle (2, ci, p) d ∗ idle (3, ci, p) d ∗ ready (4, ci, p) d)
  | 5 => iprop((zQ ci p (b0 p d) (b1 p d) d (Z1 XA XB ci p d) ∗ any d (quart (d : Thread nD τ) zM ci p (b0 p d) (1 - b1 p d))) ∗ spent (0, ci, p) d
      ∗ (done (1, ci, p) d ∗ any d (sM1 ci p) ∗ recvPay XA XB (1, ci, p) d) ∗ sent (2, ci, p) d ∗ idle (3, ci, p) d ∗ ready (4, ci, p) d)
  | 6 => iprop((zQ ci p (b0 p d) (b1 p d) d (Z2 XA XB ci p d) ∗ any d (quart (d : Thread nD τ) zM ci p (b0 p d) (1 - b1 p d))) ∗ spent (0, ci, p) d ∗ spent (1, ci, p) d
      ∗ sent (2, ci, p) d ∗ idle (3, ci, p) d ∗ ready (4, ci, p) d)
  | 7 => iprop(any d (half (d : Thread nD τ) zM ci p (b0 p d)) ∗ spent (0, ci, p) d ∗ spent (1, ci, p) d ∗ spent (2, ci, p) d ∗ sent (3, ci, p) d ∗ ready (4, ci, p) d)
  | 8 => iprop(any d (half (d : Thread nD τ) zM ci p (b0 p d)) ∗ spent (0, ci, p) d ∗ spent (1, ci, p) d ∗ spent (2, ci, p) d ∗ done (3, ci, p) d ∗ sent (4, ci, p) d)
  | 9 => iprop(any d (half (d : Thread nD τ) zM ci p (b0 p d)) ∗ spent (0, ci, p) d ∗ spent (1, ci, p) d ∗ spent (2, ci, p) d ∗ done (3, ci, p) d ∗ done (4, ci, p) d
      ∗ owns (d : Thread nD τ) (half (d : Thread nD τ) oM ci p (b0 p d)) fullShare (halfv XA XB ci p d)
      ∗ owns (d : Thread nD τ) (half (d : Thread nD τ) oM ci p (1 - b0 p d)) fullShare (halfv XA XB ci p (nbr (ax 4 p) d)))

/-- The device's block of A. -/
abbrev aOwn (d : Dev nD) : sProp 𝕄 := owns (d : Thread nD τ) aM fullShare (XA d)

/-! ## The steps -/

/-- A load of the part of a received block that goes with the quarter sent on. -/
theorem load_s {e : EltTy} (p : Fin 3) (d : Dev nD) {m : Memref sig .tc .vmem S256x512 e} {hl : m.view.LoadsAt (rRs p d).toLoadRect}
    {k : (S128x512.Idx → Elt F e) → Body F} {X : S256x512.Idx → Elt F e} :
    (owns (d : Thread nD τ) m fullShare X : sProp 𝕄)
      ⊢ iprop((owns (d : Thread nD τ) m fullShare X -∗ WP d (k (part (1 - b1 p d) X)) Q) -∗ WP d (.op (.load m (rRs p d).toLoadRect hl) k) Q) := by
  rw [← part_s p d X]; exact load_in 𝒱₀ (d : Thread nD τ) none Set.univ
/-- A load of the part that goes with the quarter kept. -/
theorem load_k {e : EltTy} (p : Fin 3) (d : Dev nD) {m : Memref sig .tc .vmem S256x512 e} {hl : m.view.LoadsAt (rRk p d).toLoadRect}
    {k : (S128x512.Idx → Elt F e) → Body F} {X : S256x512.Idx → Elt F e} :
    (owns (d : Thread nD τ) m fullShare X : sProp 𝕄)
      ⊢ iprop((owns (d : Thread nD τ) m fullShare X -∗ WP d (k (part (b1 p d) X)) Q) -∗ WP d (.op (.load m (rRk p d).toLoadRect hl) k) Q) := by
  rw [← part_k p d X]; exact load_in 𝒱₀ (d : Thread nD τ) none Set.univ

/-- Multiply the half that is sent, and send it. -/
theorem step0 (ci p : Fin 3) (d : Dev nD) (l : List Item) (k : Body F) :
    iprop(recs XA XB K ∗ levAts L lv ∗ aOwn XA d ∗ St XA XB 0 ci p d ∗ debt d (.inr (0, ci, p) :: l))
      ⊢ iprop((aOwn XA d ∗ St XA XB 1 ci p d ∗ debt d l -∗ WP d k Q) -∗ WP d (sendDot ci p d (colB XB ci d) k) Q) := by
  simp only [St, idle]
  unfold sendDot
  iintro ⟨#HR, #Hl, Ha, ⟨Hz, ⟨⟨%X, Hs⟩, H0⟩, H1, H2, H3, H4⟩, HO⟩ Hk
  iapply (load_in 𝒱₀ (d : Thread nD τ) none Set.univ (m := aM)) $$ Ha; iintro Ha
  iapply (load_in 𝒱₀ (d : Thread nD τ) none Set.univ (m := sM0 ci p)) $$ Hs; iintro Hs
  iapply (store_full 𝒱₀ (d : Thread nD τ) none Set.univ (m := sM0 ci p) zeros) $$ Hs; iintro Hs
  iapply (wp_copy XA XB K (0, ci, p) d (dv 0 ci p d) (dv_eq 0 ci p d) l) $$ [Hs H0 HO]
  · isplitr; · iexact HR
    isplitl [Hs]; · unfold sendPay; iexact Hs
    isplitl [H0]; · iexact H0
    iexact HO
  iintro ⟨H0, HO⟩
  iapply Hk
  iframe

/-- Multiply the half that is kept. -/
theorem step1 (ci p : Fin 3) (d : Dev nD) (l : List Item) (k : Body F) :
    iprop(recs XA XB K ∗ levAts L lv ∗ aOwn XA d ∗ St XA XB 1 ci p d ∗ debt d l)
      ⊢ iprop((aOwn XA d ∗ St XA XB 2 ci p d ∗ debt d l -∗ WP d k Q) -∗ WP d (keepDot ci p d (colB XB ci d) k) Q) := by
  simp only [St]
  unfold keepDot
  iintro ⟨#HR, #Hl, Ha, ⟨⟨%X, Hz⟩, HS⟩, HO⟩ Hk
  iapply (load_in 𝒱₀ (d : Thread nD τ) none Set.univ (m := aM)) $$ Ha; iintro Ha
  iapply (load_at 𝒱₀ (d : Thread nD τ) none Set.univ (rZ_eq ci p d)) $$ Hz; iintro Hz
  iapply (store_at 𝒱₀ (d : Thread nD τ) none Set.univ (rZ_eq ci p d)) $$ Hz; iintro Hz
  iapply Hk
  isplitl [Ha]; · iexact Ha
  isplitr [HO]
  · isplitl [Hz]; · iexact Hz
    iexact HS
  iexact HO

/-- Add the received block to the quarter that is sent on, and send it. -/
theorem step2 (ci p : Fin 3) (d : Dev nD) (l : List Item) (h : ∀ i ∈ (.inr (1, ci, p) :: l : List Item), 2 < itemLv i) (k : Body F) :
    iprop(recs XA XB K ∗ levAts L lv ∗ aOwn XA d ∗ St XA XB 2 ci p d ∗ debt d (.inr (1, ci, p) :: l))
      ⊢ iprop((aOwn XA d ∗ St XA XB 3 ci p d ∗ debt d l -∗ WP d k Q) -∗ WP d (rsSend ci p d k) Q) := by
  simp only [St, idle]
  unfold rsSend
  iintro ⟨#HR, #Hl, Ha, ⟨Hz, H0, ⟨⟨%X, Hs⟩, H1⟩, HS⟩, HO⟩ Hk
  iapply (wp_waits XA XB K (0, ci, p) d (.inr (1, ci, p) :: l) h) $$ [H0 HO]
  · iframe; isplitr <;> iassumption
  unfold sendPay recvPay
  iintro ⟨H0, Hs0, Hr, HO⟩
  ihave Hz := (half_split (d : Thread nD τ) zM fullShare ci p (b0 p d) (b1 p d) (Z0 XA XB ci p d)) $$ Hz
  icases Hz with ⟨Hzk, Hzs⟩
  iapply (load_at 𝒱₀ (d : Thread nD τ) none Set.univ (rZs_eq ci p d)) $$ Hzs; iintro Hzs
  iapply (load_s p d (m := rM0 ci p)) $$ Hr; iintro Hr
  iapply (load_full 𝒱₀ (d : Thread nD τ) none Set.univ (m := sM1 ci p) zeros) $$ Hs; iintro Hs
  iapply (store_full 𝒱₀ (d : Thread nD τ) none Set.univ (m := sM1 ci p) zeros) $$ Hs; iintro Hs
  ihave Hz := (half_join (d : Thread nD τ) zM fullShare ci p (b0 p d) (b1 p d) (Z0 XA XB ci p d)) $$ [Hzk Hzs]
  · isplitl [Hzk] <;> iassumption
  iapply (wp_copy XA XB K (1, ci, p) d (dv 1 ci p d) (dv_eq 1 ci p d) l) $$ [Hs H1 HO]
  · isplitr; · iexact HR
    isplitl [Hs]; · unfold sendPay; iexact Hs
    isplitl [H1]; · iexact H1
    iexact HO
  iintro ⟨H1, HO⟩
  iapply Hk
  isplitl [Ha]; · iexact Ha
  isplitr [HO]
  · isplitl [Hz]; · iexact Hz
    isplitl [H0 Hs0 Hr]
    · isplitl [H0]; · iexact H0
      isplitl [Hs0]
      · iexists _; iexact Hs0
      iexact Hr
    isplitl [H1]; · iexact H1
    iexact HS
  iexact HO

/-- Add the received block to the quarter that is kept. -/
theorem step3 (ci p : Fin 3) (d : Dev nD) (l : List Item) (k : Body F) :
    iprop(recs XA XB K ∗ levAts L lv ∗ aOwn XA d ∗ St XA XB 3 ci p d ∗ debt d l)
      ⊢ iprop((aOwn XA d ∗ St XA XB 4 ci p d ∗ debt d l -∗ WP d k Q) -∗ WP d (rsKeep ci p d k) Q) := by
  simp only [St, spent, recvPay]
  unfold rsKeep
  iintro ⟨#HR, #Hl, Ha, ⟨Hz, ⟨H0, Hs0, Hr⟩, HS⟩, HO⟩ Hk
  ihave Hz := (half_split (d : Thread nD τ) zM fullShare ci p (b0 p d) (b1 p d) (Z0 XA XB ci p d)) $$ Hz
  icases Hz with ⟨Hzk, Hzs⟩
  iapply (load_at 𝒱₀ (d : Thread nD τ) none Set.univ (rZk_eq ci p d)) $$ Hzk; iintro Hzk
  iapply (load_k p d (m := rM0 ci p)) $$ Hr; iintro Hr
  iapply (load_at 𝒱₀ (d : Thread nD τ) none Set.univ (rZk_eq ci p d)) $$ Hzk; iintro Hzk
  iapply (store_at 𝒱₀ (d : Thread nD τ) none Set.univ (rZk_eq ci p d)) $$ Hzk; iintro Hzk
  iapply Hk
  isplitl [Ha]; · iexact Ha
  isplitr [HO]
  · isplitl [Hzk Hzs]
    · isplitl [Hzk]; · iexact Hzk
      iexists _; iexact Hzs
    isplitl [H0 Hs0 Hr]
    · isplitl [H0]; · iexact H0
      isplitl [Hs0]; · iexact Hs0
      iexists _; iexact Hr
    iexact HS
  iexact HO

/-- Add the second received block to a copy of the quarter, and send it. -/
theorem step4 (ci p : Fin 3) (d : Dev nD) (l : List Item) (h : ∀ i ∈ (.inr (2, ci, p) :: l : List Item), 3 < itemLv i) (k : Body F) :
    iprop(recs XA XB K ∗ levAts L lv ∗ aOwn XA d ∗ St XA XB 4 ci p d ∗ debt d (.inr (2, ci, p) :: l))
      ⊢ iprop((aOwn XA d ∗ St XA XB 5 ci p d ∗ debt d l -∗ WP d k Q) -∗ WP d (mSend ci p d k) Q) := by
  simp only [St, idle]
  unfold mSend
  iintro ⟨#HR, #Hl, Ha, ⟨⟨Hzk, Hzs⟩, H0, H1, ⟨⟨%X, Hs⟩, H2⟩, HS⟩, HO⟩ Hk
  iapply (wp_waits XA XB K (1, ci, p) d (.inr (2, ci, p) :: l) h) $$ [H1 HO]
  · iframe; isplitr <;> iassumption
  unfold sendPay recvPay
  iintro ⟨H1, Hs1, Hr, HO⟩
  iapply (load_at 𝒱₀ (d : Thread nD τ) none Set.univ (rZk_eq ci p d)) $$ Hzk; iintro Hzk
  iapply (load_full 𝒱₀ (d : Thread nD τ) none Set.univ (m := rM1 ci p) zeros) $$ Hr; iintro Hr
  iapply (load_full 𝒱₀ (d : Thread nD τ) none Set.univ (m := sM2 ci p) zeros) $$ Hs; iintro Hs
  iapply (store_full 𝒱₀ (d : Thread nD τ) none Set.univ (m := sM2 ci p) zeros) $$ Hs; iintro Hs
  iapply (wp_copy XA XB K (2, ci, p) d (dv 2 ci p d) (dv_eq 2 ci p d) l) $$ [Hs H2 HO]
  · isplitr; · iexact HR
    isplitl [Hs]; · unfold sendPay; iexact Hs
    isplitl [H2]; · iexact H2
    iexact HO
  iintro ⟨H2, HO⟩
  iapply Hk
  isplitl [Ha]; · iexact Ha
  isplitr [HO]
  · isplitl [Hzk Hzs]
    · isplitl [Hzk]
      · iexact Hzk
      · iexact Hzs
    isplitl [H0]; · iexact H0
    isplitl [H1 Hs1 Hr]
    · isplitl [H1]; · iexact H1
      isplitl [Hs1]
      · iexists _; iexact Hs1
      iexact Hr
    isplitl [H2]; · iexact H2
    iexact HS
  iexact HO

/-- Add the second received block to the quarter. -/
theorem step5 (ci p : Fin 3) (d : Dev nD) (l : List Item) (k : Body F) :
    iprop(recs XA XB K ∗ levAts L lv ∗ aOwn XA d ∗ St XA XB 5 ci p d ∗ debt d l)
      ⊢ iprop((aOwn XA d ∗ St XA XB 6 ci p d ∗ debt d l -∗ WP d k Q) -∗ WP d (mKeep ci p d k) Q) := by
  simp only [St, spent, recvPay]
  unfold mKeep
  iintro ⟨#HR, #Hl, Ha, ⟨⟨Hzk, Hzs⟩, H0, ⟨H1, Hs1, Hr⟩, HS⟩, HO⟩ Hk
  iapply (load_at 𝒱₀ (d : Thread nD τ) none Set.univ (rZk_eq ci p d)) $$ Hzk; iintro Hzk
  iapply (load_full 𝒱₀ (d : Thread nD τ) none Set.univ (m := rM1 ci p) zeros) $$ Hr; iintro Hr
  iapply (load_at 𝒱₀ (d : Thread nD τ) none Set.univ (rZk_eq ci p d)) $$ Hzk; iintro Hzk
  iapply (store_at 𝒱₀ (d : Thread nD τ) none Set.univ (rZk_eq ci p d)) $$ Hzk; iintro Hzk
  iapply Hk
  isplitl [Ha]; · iexact Ha
  isplitr [HO]
  · isplitl [Hzk Hzs]
    · isplitl [Hzk]
      · iexact Hzk
      · iexact Hzs
    isplitl [H0]; · iexact H0
    isplitl [H1 Hs1 Hr]
    · isplitl [H1]; · iexact H1
      isplitl [Hs1]; · iexact Hs1
      iexists _; iexact Hr
    iexact HS
  iexact HO

/-- Add the third received block, apply the silu, and send the quarter of the result. -/
theorem step6 (ci p : Fin 3) (d : Dev nD) (l : List Item) (h : ∀ i ∈ (.inr (3, ci, p) :: l : List Item), 4 < itemLv i) (k : Body F) :
    iprop(recs XA XB K ∗ levAts L lv ∗ aOwn XA d ∗ St XA XB 6 ci p d ∗ debt d (.inr (3, ci, p) :: l))
      ⊢ iprop((aOwn XA d ∗ St XA XB 7 ci p d ∗ debt d l -∗ WP d k Q) -∗ WP d (silu ci p d k) Q) := by
  simp only [St, idle, spent]
  unfold silu
  iintro ⟨#HR, #Hl, Ha, ⟨⟨Hzk, Hzs⟩, H0, H1, H2, ⟨⟨%X, Hs⟩, H3⟩, H4⟩, HO⟩ Hk
  iapply (wp_waits XA XB K (2, ci, p) d (.inr (3, ci, p) :: l) h) $$ [H2 HO]
  · iframe; isplitr <;> iassumption
  unfold sendPay recvPay
  iintro ⟨H2, Hs2, Hr, HO⟩
  iapply (load_at 𝒱₀ (d : Thread nD τ) none Set.univ (rZk_eq ci p d)) $$ Hzk; iintro Hzk
  iapply (load_full 𝒱₀ (d : Thread nD τ) none Set.univ (m := rM2 ci p) zeros) $$ Hr; iintro Hr
  iapply (load_at 𝒱₀ (d : Thread nD τ) none Set.univ (rO_eq ci p d)) $$ Hs; iintro Hs
  iapply (store_at 𝒱₀ (d : Thread nD τ) none Set.univ (rO_eq ci p d)) $$ Hs; iintro Hs
  iapply (wp_copy XA XB K (3, ci, p) d (dv 3 ci p d) (dv_eq 3 ci p d) l) $$ [Hs H3 HO]
  · isplitr; · iexact HR
    isplitl [Hs]; · unfold sendPay; iexact Hs
    isplitl [H3]; · iexact H3
    iexact HO
  iintro ⟨H3, HO⟩
  iapply Hk
  isplitl [Ha]; · iexact Ha
  isplitr [HO]
  · isplitl [Hzk Hzs]
    · iapply (half_join_any (d : Thread nD τ) zM fullShare ci p (b0 p d) (b1 p d))
      isplitl [Hzk]
      · iexists _; iexact Hzk
      iexact Hzs
    isplitl [H0]; · iexact H0
    isplitl [H1]; · iexact H1
    isplitl [H2 Hs2 Hr]
    · isplitl [H2]; · iexact H2
      isplitl [Hs2]
      · iexists _; iexact Hs2
      iexists _; iexact Hr
    isplitl [H3]; · iexact H3
    iexact H4
  iexact HO

/-- A device's half of the result, from its quarter and its neighbour's. -/
theorem half_of_quarts (ci p : Fin 3) (d : Dev nD) :
    iprop(sendPay XA XB (3, ci, p) d ∗ recvPay XA XB (3, ci, p) d) ⊢ sendPay XA XB (4, ci, p) d := by
  unfold sendPay recvPay
  have e0 : b0 p (nbr (ax 3 p) d) = b0 p d := bit_nbr_ne _ _ _ (fun h => ax01 p h.symm)
  have e1 : b1 p (nbr (ax 3 p) d) = 1 - b1 p d := bit_nbr _ _
  have H := half_cat (Ix := Unit) (Val := Elt F) (Name := ℕ) (U := UU) (Lvl := ℕ) (d : Thread nD τ) oM fullShare ci p (b0 p d) (b1 p d)
    (fun k => if k = b1 p d then fin XA XB ci p d else fin XA XB ci p (nbr (ax 3 p) d))
  rw [if_pos rfl, if_neg (other_ne _)] at H
  show iprop(owns (d : Thread nD τ) (oQ ci p d) fullShare (fin XA XB ci p d) ∗ owns (d : Thread nD τ) (oQ ci p (nbr (ax 3 p) d)) fullShare (fin XA XB ci p (nbr (ax 3 p) d)))
    ⊢ owns (d : Thread nD τ) (oH ci p d) fullShare (halfv XA XB ci p d)
  rw [oQ_eq ci p d d, oQ_eq ci p (nbr (ax 3 p) d) d, oH_eq ci p d d, e0, e1]
  exact H

/-- Receive the quarter beside one's own, and send the half. -/
theorem step7 (ci p : Fin 3) (d : Dev nD) (l : List Item) (h : ∀ i ∈ (.inr (4, ci, p) :: l : List Item), 5 < itemLv i) (k : Body F) :
    iprop(recs XA XB K ∗ levAts L lv ∗ aOwn XA d ∗ St XA XB 7 ci p d ∗ debt d (.inr (4, ci, p) :: l))
      ⊢ iprop((aOwn XA d ∗ St XA XB 8 ci p d ∗ debt d l -∗ WP d k Q) -∗ WP d (agStep ci p d k) Q) := by
  simp only [St]
  unfold agStep
  iintro ⟨#HR, #Hl, Ha, ⟨Hz, H0, H1, H2, H3, H4⟩, HO⟩ Hk
  iapply (wp_waits XA XB K (3, ci, p) d (.inr (4, ci, p) :: l) h) $$ [H3 HO]
  · iframe; isplitr <;> iassumption
  iintro ⟨H3, Hs, Hr, HO⟩
  ihave Hs := (half_of_quarts XA XB ci p d) $$ [Hs Hr]
  · isplitl [Hs] <;> iassumption
  iapply (wp_copy XA XB K (4, ci, p) d (dv 4 ci p d) (dv_eq 4 ci p d) l) $$ [Hs H4 HO]
  · isplitr; · iexact HR
    isplitl [Hs]; · iexact Hs
    isplitl [H4]; · iexact H4
    iexact HO
  iintro ⟨H4, HO⟩
  iapply Hk
  iframe

/-- Receive the other half. -/
theorem step8 (ci p : Fin 3) (d : Dev nD) (l : List Item) (h : ∀ i ∈ l, 6 < itemLv i) (k : Body F) :
    iprop(recs XA XB K ∗ levAts L lv ∗ aOwn XA d ∗ St XA XB 8 ci p d ∗ debt d l)
      ⊢ iprop((aOwn XA d ∗ St XA XB 9 ci p d ∗ debt d l -∗ WP d k Q) -∗ WP d (agEnd ci p d k) Q) := by
  simp only [St]
  unfold agEnd
  have e0 : b0 p (nbr (ax 4 p) d) = 1 - b0 p d := bit_nbr _ _
  iintro ⟨#HR, #Hl, Ha, ⟨Hz, H0, H1, H2, H3, H4⟩, HO⟩ Hk
  iapply (wp_waits XA XB K (4, ci, p) d l h) $$ [H4 HO]
  · iframe; isplitr <;> iassumption
  iintro ⟨H4, Hs, Hr, HO⟩
  ihave Hs := (show sendPay XA XB (4, ci, p) d ⊢ owns (d : Thread nD τ) (half (d : Thread nD τ) oM ci p (b0 p d)) fullShare (halfv XA XB ci p d) from
    Entails.of_eq (by rw [← oH_eq ci p d d]; rfl)) $$ Hs
  ihave Hr := (show recvPay XA XB (4, ci, p) d ⊢ owns (d : Thread nD τ) (half (d : Thread nD τ) oM ci p (1 - b0 p d)) fullShare (halfv XA XB ci p (nbr (ax 4 p) d)) from
    Entails.of_eq (by rw [← e0, ← oH_eq ci p (nbr (ax 4 p) d) d]; rfl)) $$ Hr
  iapply Hk
  iframe

end Cert.KernelIdeal.Proof
end
-- ==== Proof.Body.lean ====
/-
  The body.

  The steps of all nine pairs in the body's order, and around them: the barrier, at which every device hands its landing buffers to its
  neighbours; the three loads of B; and the cells closing at the end.
-/
module

public import proofs.«01_k».proof.Proof.Pairs

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Blocks

variable {F : FTy → Type} [FloatOps F]

local notation "𝕄" => MT nD τ sig Unit (Elt F) ℕ UU ℕ

variable (XA : Dev nD → Vec F S1536x768 .bf16) (XB : Dev nD → Vec F S768x1536 .bf16) (K : Dev nD × CIdx → ℕ)
variable {Q : PUnit → sProp (MT nD τ sig Unit (Elt F) ℕ UU ℕ)}

/-! ## The run -/

/-- Whether a step may be taken with the rest of the steps still to come: it may wait below everything that is still owed. -/
def low (x : Step) (l : List Step) : Prop := ∀ y ∈ awaits x, ∀ i ∈ todo (x :: l), 2 + y.1.val < itemLv i

/-- Each step takes its pair one state on. -/
theorem step (x : Step) (d : Dev nD) (l : List Step) (h : low x l) (k : Body F) :
    iprop(recs XA XB K ∗ levAts L lv ∗ aOwn XA d ∗ St XA XB x.1.castSucc x.2.1 x.2.2 d ∗ debt d (todo (x :: l)))
      ⊢ iprop((aOwn XA d ∗ St XA XB x.1.succ x.2.1 x.2.2 d ∗ debt d (todo l) -∗ WP d k Q) -∗ WP d (x.prog d (fun ci => colB XB ci d) k) Q) :=
  match x, h with
  | (0, ci, p), _ => step0 XA XB K ci p d (todo l) k
  | (1, ci, p), _ => step1 XA XB K ci p d (todo l) k
  | (2, ci, p), h => step2 XA XB K ci p d (todo l) (h (0, ci, p) rfl) k
  | (3, ci, p), _ => step3 XA XB K ci p d (todo l) k
  | (4, ci, p), h => step4 XA XB K ci p d (todo l) (h (1, ci, p) rfl) k
  | (5, ci, p), _ => step5 XA XB K ci p d (todo l) k
  | (6, ci, p), h => step6 XA XB K ci p d (todo l) (h (2, ci, p) rfl) k
  | (7, ci, p), h => step7 XA XB K ci p d (todo l) (h (3, ci, p) rfl) k
  | (8, ci, p), h => step8 XA XB K ci p d (todo l) (h (4, ci, p) rfl) k

/-- All pairs, each after a number of steps. -/
def All (κ : Pair → Fin 10) (d : Dev nD) : sProp 𝕄 := bigSep Finset.univ fun t : Pair => St XA XB (κ t) t.1 t.2 d
/-- All pairs but one. -/
def Rest (κ : Pair → Fin 10) (t : Pair) (d : Dev nD) : sProp 𝕄 := bigSep (Finset.univ.erase t) fun t : Pair => St XA XB (κ t) t.1 t.2 d

theorem all_take (κ : Pair → Fin 10) (t : Pair) (d : Dev nD) : All XA XB κ d = iprop(St XA XB (κ t) t.1 t.2 d ∗ Rest XA XB κ t d) :=
  bigSep_univ_split t
theorem all_put (κ : Pair → Fin 10) (t : Pair) (n : Fin 10) (d : Dev nD) :
    All XA XB (Function.update κ t n) d = iprop(St XA XB n t.1 t.2 d ∗ Rest XA XB κ t d) := by
  rw [all_take XA XB _ t, Function.update_self]
  refine congrArg (fun R => iprop(_ ∗ R)) (bigSep_congr fun t' ht => ?_)
  rw [Function.update_of_ne (Finset.ne_of_mem_erase ht)]

/-- A list of steps that takes the pairs from the given states to the last: each step is its pair's next, and may wait where it waits. -/
def valid (κ : Pair → Fin 10) : List Step → Bool
  | [] => decide (∀ t, κ t = 9)
  | x :: l => decide (κ x.2 = x.1.castSucc) && (match awaits x with
      | some y => (todo (x :: l)).all fun i => decide (2 + y.1.val < itemLv i)
      | none => true) && valid (Function.update κ x.2 x.1.succ) l

theorem valid_low {x : Step} {l : List Step} (h : (match awaits x with
      | some y => (todo (x :: l)).all fun i => decide (2 + y.1.val < itemLv i)
      | none => true) = true) : low x l := by
  intro y hy i hi
  rw [Option.mem_def.mp hy] at h
  exact of_decide_eq_true (List.all_eq_true.mp h i hi)

set_option maxRecDepth 65536 in
theorem valid_steps : valid (fun _ => 0) steps = true := by decide +kernel

/-- The run of a valid list of steps. -/
theorem run_wp (d : Dev nD) (l : List Step) (κ : Pair → Fin 10) (h : valid κ l = true) :
    iprop(recs XA XB K ∗ levAts L lv ∗ aOwn XA d ∗ All XA XB κ d ∗ debt d (todo l))
      ⊢ iprop((aOwn XA d ∗ All XA XB (fun _ => 9) d ∗ debt d [] -∗ |={Set.univ}=> Q ⟨⟩) -∗ WP d (run d (fun ci => colB XB ci d) l) Q) := by
  induction l generalizing κ with
  | nil =>
    rw [show κ = fun _ => 9 from funext (of_decide_eq_true h)]
    unfold run
    iintro ⟨-, -, H⟩ Hk
    unfold WP
    rw [wp_ret]
    iapply Hk
    iexact H
  | cons x l ih =>
    unfold valid at h
    obtain ⟨h12, h3⟩ := Bool.and_eq_true_iff.mp h
    obtain ⟨h1, h2⟩ := Bool.and_eq_true_iff.mp h12
    have ih := ih _ h3
    rw [all_put] at ih
    rw [all_take XA XB κ x.2, of_decide_eq_true h1]
    unfold run
    iintro ⟨#HR, #Hl, Ha, ⟨HS, Hrest⟩, HO⟩ Hk
    iapply (step XA XB K x d l (valid_low h2) _) $$ [Ha HS HO]
    · isplitr; · iexact HR
      isplitr; · iexact Hl
      isplitl [Ha]; · iexact Ha
      isplitl [HS]; · iexact HS
      iexact HO
    iintro ⟨Ha, HS, HO⟩
    iapply ih $$ [Ha HS Hrest HO]
    · isplitr; · iexact HR
      isplitr; · iexact Hl
      isplitl [Ha]; · iexact Ha
      isplitl [HS Hrest]
      · isplitl [HS]; · iexact HS
        iexact Hrest
      iexact HO
    iexact Hk

/-! ## The barrier -/

/-- Where a copy lands on device d, at any contents. -/
def mine (x : Copy) (d : Dev nD) : sProp 𝕄 := any d (dst x (nb x d))

omit [FloatOps F] in
/-- A sum over the copies, axis by axis. -/
theorem by_axis (Φ : Copy → sProp 𝕄) : bigSep Finset.univ Φ = bigSep Finset.univ fun a : Fin 3 => bigSep (along a) Φ := by
  rw [← Idealize.SL.BI.bigSep_biUnion_eq Finset.univ along Φ (fun a _ a' _ hne => Finset.disjoint_left.mpr fun x hx hx' =>
    hne ((Finset.mem_filter.mp hx).2.symm.trans (Finset.mem_filter.mp hx').2))]
  congr 1
  ext x
  simp

omit [FloatOps F] in
theorem barPay_nbr (a : Fin 3) (d : Dev nD) : barPay (F := F) a (nbr a d) = bigSep (along a) fun x => mine x d := by
  unfold barPay
  refine bigSep_congr fun x hx => ?_
  have e : nb x d = nbr a d := by rw [← (Finset.mem_filter.mp hx).2]
  unfold lands mine
  rw [← e, show nb x (nb x d) = d from nbr_nbr _ d]

/-- A signal hands the landing buffers of an axis to the neighbour. -/
theorem wp_bar (a : Fin 3) (d : Dev nD) (l : List Item) {k : PUnit → Body F} :
    iprop(recs XA XB K ∗ (bigSep (along a) fun x => mine x d) ∗ dutyTok ER (barC (nbr a d)) 0 a ∗ debt d (.inl a :: l))
      ⊢ iprop((debt d l -∗ WP d (k ⟨⟩) Q) -∗ WP d (.op (.semSignal (bdv a d, .tc) barS (1#32).toInt) k) Q) := by
  rw [bdv_eq, ← barPay_nbr]
  unfold debt
  iintro ⟨#HR, Hm, Ht, ⟨%W, HO⟩⟩ Hk
  ihave H1 := (recs_at XA XB K (nbr a d, none)) $$ HR
  icases H1 with ⟨#I1, #R1⟩
  iapply (Rounds.wp_signal 𝒱₀ ER (sched XA XB) (d : Thread nD τ) none (dst := (nbr a d : Thread nD τ)) (κ := K (nbr a d, none))
      (d := a) (show a ∈ (sched XA XB).duties (kcell (nbr a d, none)) 0 by rw [duties_at]; exact Finset.mem_univ _) ((amount_at XA XB (nbr a d) none 0 a).trans (by decide)) () (owed d l) rfl)
    $$ [HO Ht Hm]
  · isplitr; · iexact I1
    isplitl [HO]; · iexact HO
    isplitl [Ht]; · iexact Ht
    isplitl [Hm]
    · iapply (show barPay (F := F) a (nbr a d) ⊢ (sched XA XB).payload ((nbr a d : Thread nD τ), .reg barS) 0 a from Entails.of_eq (payload_at XA XB (nbr a d) none 0 a).symm)
      iexact Hm
    iexact R1
  iintro HO
  iapply Hk
  iexists W; iexact HO

/-- The wait at the barrier brings the neighbours' landing buffers. -/
theorem wp_meet (d : Dev nD) (l : List Item) (h : ∀ i ∈ l, 1 < itemLv i) {k : PUnit → Body F} :
    iprop(recs XA XB K ∗ levAts L lv ∗ atPos ER (barC d) 0 ∅ 0 ∗ cred (tallyAt (barC d) () 3) ∗ debt d l)
      ⊢ iprop((atPos ER (barC d) 1 ∅ 0 ∗ (bigSep Finset.univ fun x => lands x d) ∗ debt d l -∗ WP d (k ⟨⟩) Q)
          -∗ WP d (.op (.semWait barS (3#32).toInt) k) Q) := by
  rw [by_axis]
  unfold debt
  iintro ⟨#HR, #Hl, Ha, Hc, ⟨%W, HO⟩⟩ Hk
  ihave H1 := (recs_at XA XB K (d, none)) $$ HR
  icases H1 with ⟨#I1, #R1⟩
  iapply (Rounds.wp_wait_rest_token 𝒱₀ ER (sched XA XB) (d : Thread nD τ) none (κ := K (d, none)) (sm := .reg barS)
      (wpE_semWait_eq 𝒱₀ (d : Thread nD τ) none Set.univ) (Set.mem_univ _) () (O := owed d l) (W := W) (R := 0) (m := 0) (T := ∅)
      (by rw [show (sched XA XB).expect ((d : Thread nD τ), .reg barS) 0 = 3 from expect_bar XA XB d]; decide)) $$ [Hc HO Ha]
  · isplitr; · iexact I1
    isplitl [Hc]; · iexact Hc
    isplitl [HO]; · iexact HO
    isplitr
    · iapply (mayWait d (.reg barS) l 1 (le_of_eq (lv_at d none ())) h)
      iexact Hl
    iexact Ha
  iintro ⟨HO, Ha, -, Hp⟩
  ihave Hp := (show bigSep ((sched XA XB).duties ((d : Thread nD τ), .reg barS) 0 \ ∅) (fun a => (sched XA XB).payload ((d : Thread nD τ), .reg barS) 0 a)
      ⊢ bigSep Finset.univ fun a => barPay (F := F) a d from Entails.of_eq (rest_bar XA XB d)) $$ Hp
  iapply Hk
  isplitl [Ha]; · iexact Ha
  isplitl [Hp]; · unfold barPay; iexact Hp
  iexists _; iexact HO

/-! ## The start and the end of the pairs -/

/-- The scratch buffers of a pair. -/
def outgoing (t : Pair) (d : Dev nD) : sProp 𝕄 := iprop(any d (sM0 t.1 t.2) ∗ any d (sM1 t.1 t.2) ∗ any d (sM2 t.1 t.2))
def incoming (t : Pair) (d : Dev nD) : sProp 𝕄 := iprop(any d (rM0 t.1 t.2) ∗ any d (rM1 t.1 t.2) ∗ any d (rM2 t.1 t.2))
/-- All scratch buffers, at any contents. -/
def scratch (d : Dev nD) : sProp 𝕄 := iprop(any d zM ∗ (bigSep Finset.univ fun t : Pair => outgoing t d) ∗ bigSep Finset.univ fun t : Pair => incoming t d)

omit [FloatOps F] in
/-- A sum over the copies, pair by pair. -/
theorem by_pair (Φ : Copy → sProp 𝕄) :
    bigSep Finset.univ Φ = bigSep Finset.univ fun t : Pair => iprop(Φ (0, t) ∗ Φ (1, t) ∗ Φ (2, t) ∗ Φ (3, t) ∗ Φ (4, t)) := by
  rw [bigSep_univ_prod (α := Fin 5) (β := Pair), bigSep_univ_eq_bigSepL [0, 1, 2, 3, 4] (by decide) (by decide)]
  simp only [bigSepL_cons_cons, bigSepL_singleton, bigSep_sep']
  rfl

/-- The half of the accumulator that is not used again after the first product. -/
def spare (t : Pair) (d : Dev nD) : sProp 𝕄 := any d (half (d : Thread nD τ) zM t.1 t.2 (1 - b0 t.2 d))

theorem e0_3 (p : Fin 3) (d : Dev nD) : b0 p (nbr (ax 3 p) d) = b0 p d := bit_nbr_ne _ _ _ (fun h => ax01 p h.symm)
theorem e1_3 (p : Fin 3) (d : Dev nD) : b1 p (nbr (ax 3 p) d) = 1 - b1 p d := bit_nbr _ _
theorem e0_4 (p : Fin 3) (d : Dev nD) : b0 p (nbr (ax 4 p) d) = 1 - b0 p d := bit_nbr _ _

omit [FloatOps F] in
/-- The two halves of the result's buffer: one's own quarter, and where the neighbours' copies land. -/
theorem split_out (t : Pair) (d : Dev nD) :
    iprop((∃ Y, owns (d : Thread nD τ) (half (d : Thread nD τ) oM t.1 t.2 (b0 t.2 d)) fullShare Y) ∗ (∃ Y, owns (d : Thread nD τ) (half (d : Thread nD τ) oM t.1 t.2 (1 - b0 t.2 d)) fullShare Y))
      ⊢ (iprop(any d (src (3, t) d) ∗ mine (3, t) d ∗ mine (4, t) d) : sProp 𝕄) := by
  have q : (oQ t.1 t.2 (nbr (ax 3 t.2) d)) = quart (d : Thread nD τ) oM t.1 t.2 (b0 t.2 d) (1 - b1 t.2 d) := by
    rw [oQ_eq t.1 t.2 _ d, e0_3, e1_3]
  have h : (oH t.1 t.2 (nbr (ax 4 t.2) d)) = half (d : Thread nD τ) oM t.1 t.2 (1 - b0 t.2 d) := by
    rw [oH_eq t.1 t.2 _ d, e0_4]
  show _ ⊢ iprop(any d (oQ t.1 t.2 d) ∗ any d (oQ t.1 t.2 (nbr (ax 3 t.2) d)) ∗ any d (oH t.1 t.2 (nbr (ax 4 t.2) d)))
  rw [q, h, oQ_eq t.1 t.2 d d]
  iintro ⟨⟨%Y, H1⟩, H2⟩
  ihave H1 := (half_split (d : Thread nD τ) oM fullShare t.1 t.2 (b0 t.2 d) (b1 t.2 d) Y) $$ H1
  icases H1 with ⟨H1, H1'⟩
  isplitl [H1]
  · iexists _; iexact H1
  isplitl [H1']
  · iexists _; iexact H1'
  iexact H2

/-- What a device puts in the pairs' first states besides the neighbours' landing buffers. -/
def before (t : Pair) (d : Dev nD) : sProp 𝕄 :=
  iprop(any d (half (d : Thread nD τ) zM t.1 t.2 (b0 t.2 d)) ∗ outgoing t d ∗ any d (src (3, t) d))

/-- The device's own buffers, split: the pairs' parts, the spare halves, and the landing buffers, which the barrier hands away. -/
theorem split_buffers (d : Dev nD) :
    iprop(scratch d ∗ any d oM) ⊢ (iprop((bigSep Finset.univ fun t : Pair => iprop(before t d ∗ spare t d)) ∗ bigSep Finset.univ fun x : Copy => mine x d) : sProp 𝕄) := by
  unfold scratch
  rw [by_pair fun x => mine x d]
  rw [← bigSep_sep' Finset.univ (fun t : Pair => iprop(before t d ∗ spare t d))]
  iintro ⟨⟨⟨%Z, Hz⟩, Hs, Hr⟩, ⟨%O, Ho⟩⟩
  ihave Hz := (whole_split (d : Thread nD τ) zM fullShare (fun t => b0 t.2 d) Z) $$ Hz
  ihave Ho := (whole_split (d : Thread nD τ) oM fullShare (fun t => b0 t.2 d) O) $$ Ho
  iapply (show iprop((bigSep Finset.univ fun t : Pair => iprop((∃ Y, owns (d : Thread nD τ) (half (d : Thread nD τ) zM t.1 t.2 (b0 t.2 d)) fullShare Y)
        ∗ (∃ Y, owns (d : Thread nD τ) (half (d : Thread nD τ) zM t.1 t.2 (1 - b0 t.2 d)) fullShare Y)))
      ∗ (bigSep Finset.univ fun t : Pair => iprop((∃ Y, owns (d : Thread nD τ) (half (d : Thread nD τ) oM t.1 t.2 (b0 t.2 d)) fullShare Y)
        ∗ (∃ Y, owns (d : Thread nD τ) (half (d : Thread nD τ) oM t.1 t.2 (1 - b0 t.2 d)) fullShare Y)))
      ∗ (bigSep Finset.univ fun t : Pair => outgoing t d) ∗ bigSep Finset.univ fun t : Pair => incoming t d)
      ⊢ (_ : sProp 𝕄) from by
    rw [← bigSep_sep', ← bigSep_sep', ← bigSep_sep']
    refine bigSep_mono fun t _ => ?_
    obtain ⟨ci, p⟩ := t
    show (_ : sProp 𝕄) ⊢ _
    unfold before spare
    iintro ⟨⟨Hz, Hz'⟩, Ho, Hs, Hr⟩
    ihave Ho := (split_out (ci, p) d) $$ Ho
    icases Ho with ⟨Ho, H3, H4⟩
    isplitl [Hz Hz' Hs Ho]
    · isplitl [Hz Hs Ho]
      · isplitl [Hz]; · iexact Hz
        isplitl [Hs]; · iexact Hs
        iexact Ho
      iexact Hz'
    unfold incoming mine
    icases Hr with ⟨H0, H1, H2⟩
    isplitl [H0]; · iexact H0
    isplitl [H1]; · iexact H1
    isplitl [H2]; · iexact H2
    isplitl [H3] <;> iassumption)
  isplitl [Hz]; · iexact Hz
  isplitl [Ho]; · iexact Ho
  isplitl [Hs] <;> iassumption

/-- What a device holds of the ghost state of a copy. -/
def held (x : Copy) (d : Dev nD) : sProp 𝕄 := iprop(tokS x d ∗ waitS x d)

/-- The pairs' first states. -/
theorem pairs_start (d : Dev nD) :
    iprop((bigSep Finset.univ fun t : Pair => iprop(before t d ∗ spare t d)) ∗ (bigSep Finset.univ fun x : Copy => lands x d) ∗ bigSep Finset.univ fun x : Copy => held x d)
      ⊢ iprop(All XA XB (fun _ => 0) d ∗ bigSep Finset.univ fun t : Pair => spare t d) := by
  unfold All
  rw [by_pair fun x => lands x d, by_pair fun x => held x d, ← bigSep_sep', ← bigSep_sep', ← bigSep_sep']
  refine bigSep_mono fun t _ => ?_
  show (_ : sProp 𝕄) ⊢ _
  simp only [St]
  unfold before outgoing held idle ready
  iintro ⟨⟨⟨Hz, ⟨Hs0, Hs1, Hs2⟩, Ho⟩, Hx⟩, ⟨L0, L1, L2, L3, L4⟩, H0, H1, H2, H3, H4⟩
  isplitr [Hx]
  · isplitl [Hz]; · iexact Hz
    isplitl [Hs0 L0 H0]
    · isplitl [Hs0]; · iexact Hs0
      isplitl [L0]; · iexact L0
      iexact H0
    isplitl [Hs1 L1 H1]
    · isplitl [Hs1]; · iexact Hs1
      isplitl [L1]; · iexact L1
      iexact H1
    isplitl [Hs2 L2 H2]
    · isplitl [Hs2]; · iexact Hs2
      isplitl [L2]; · iexact L2
      iexact H2
    isplitl [Ho L3 H3]
    · isplitl [Ho]; · iexact Ho
      isplitl [L3]; · iexact L3
      iexact H3
    isplitl [L4]; · iexact L4
    iexact H4
  iexact Hx

/-- From the pairs' last states: the scratch buffers, the result, and every copy done. -/
theorem pairs_end (d : Dev nD) :
    iprop(All XA XB (fun _ => 9) d ∗ bigSep Finset.univ fun t : Pair => spare t d)
      ⊢ iprop(scratch d ∗ owns (d : Thread nD τ) oM fullShare (out XA XB d) ∗ bigSep Finset.univ fun x : Copy => done x d) := by
  have hO := whole_join (Ix := Unit) (Val := Elt F) (Name := ℕ) (U := UU) (Lvl := ℕ) (d : Thread nD τ) oM fullShare (fun t => b0 t.2 d)
    (fun t => if t.2 = b0 t.1.2 d then halfv XA XB t.1.1 t.1.2 d else halfv XA XB t.1.1 t.1.2 (nbr (ax 4 t.1.2) d))
  simp only [if_true, if_neg (other_ne _)] at hO
  have hZ := whole_join_any (Ix := Unit) (Val := Elt F) (Name := ℕ) (U := UU) (Lvl := ℕ) (d : Thread nD τ) zM fullShare (fun t => b0 t.2 d)
  unfold All scratch
  rw [by_pair fun x => done x d]
  refine BIBase.Entails.trans (show _ ⊢ iprop(
      (bigSep Finset.univ fun t : Pair => iprop((∃ Y, owns (d : Thread nD τ) (half (d : Thread nD τ) zM t.1 t.2 (b0 t.2 d)) fullShare Y)
        ∗ (∃ Y, owns (d : Thread nD τ) (half (d : Thread nD τ) zM t.1 t.2 (1 - b0 t.2 d)) fullShare Y)))
      ∗ (bigSep Finset.univ fun t : Pair => iprop(owns (d : Thread nD τ) (half (d : Thread nD τ) oM t.1 t.2 (b0 t.2 d)) fullShare (halfv XA XB t.1 t.2 d)
        ∗ owns (d : Thread nD τ) (half (d : Thread nD τ) oM t.1 t.2 (1 - b0 t.2 d)) fullShare (halfv XA XB t.1 t.2 (nbr (ax 4 t.2) d))))
      ∗ (bigSep Finset.univ fun t : Pair => outgoing t d) ∗ (bigSep Finset.univ fun t : Pair => incoming t d)
      ∗ bigSep Finset.univ fun t : Pair => iprop(done (0, t) d ∗ done (1, t) d ∗ done (2, t) d ∗ done (3, t) d ∗ done (4, t) d)) from ?_) ?_
  · rw [← bigSep_sep', ← bigSep_sep', ← bigSep_sep', ← bigSep_sep', ← bigSep_sep']
    refine bigSep_mono fun t _ => ?_
    show (_ : sProp 𝕄) ⊢ _
    simp only [St]
    unfold spare spent outgoing incoming
    iintro ⟨⟨Hz, ⟨D0, S0, R0⟩, ⟨D1, S1, R1⟩, ⟨D2, S2, R2⟩, D3, D4, Ho, Ho'⟩, Hx⟩
    isplitl [Hz Hx]
    · isplitl [Hz] <;> iassumption
    isplitl [Ho Ho']
    · isplitl [Ho]; · iexact Ho
      iexact Ho'
    isplitl [S0 S1 S2]
    · isplitl [S0]; · iexact S0
      isplitl [S1]; · iexact S1
      iexact S2
    isplitl [R0 R1 R2]
    · isplitl [R0]; · iexact R0
      isplitl [R1]; · iexact R1
      iexact R2
    isplitl [D0]; · iexact D0
    isplitl [D1]; · iexact D1
    isplitl [D2]; · iexact D2
    isplitl [D3]; · iexact D3
    iexact D4
  · iintro ⟨Hz, Ho, Hs, Hr, HD⟩
    isplitl [Hz Hs Hr]
    · isplitl [Hz]; · iapply hZ; iexact Hz
      isplitl [Hs] <;> iassumption
    isplitl [Ho]; · iapply hO; iexact Ho
    iexact HD

/-! ## The cells close -/

/-- The counters of a copy's two cells, at zero. -/
def closed (x : Copy) (d : Dev nD) : sProp 𝕄 := iprop(semVal (sendC x d) 0 ∗ semVal (recvC x d) 0)

theorem close_copy (x : Copy) (d : Dev nD) : iprop(recs XA XB K ∗ done x d) ⊢ (|={Set.univ}=> closed x d : sProp 𝕄) := by
  unfold done closed
  iintro ⟨#HR, H1, H2⟩
  ihave I1 := (recs_at XA XB K (d, some (false, x))) $$ HR
  icases I1 with ⟨#I1, -⟩
  ihave I2 := (recs_at XA XB K (d, some (true, x))) $$ HR
  icases I2 with ⟨#I2, -⟩
  imod (Rounds.cell_close ER (sched XA XB) (Set.mem_univ (K (d, some (false, x)))) (fun h => h) (R := 1) (duties_later XA XB (sendC x d))) $$ [H1] with H1
  · isplitr; · iexact I1
    iexact H1
  imod (Rounds.cell_close ER (sched XA XB) (Set.mem_univ (K (d, some (true, x)))) (fun h => h) (R := 1) (duties_later XA XB (recvC x d))) $$ [H2] with H2
  · isplitr; · iexact I2
    iexact H2
  imodintro
  isplitl [H1] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all (d : Dev nD) :
    iprop(recs XA XB K ∗ bigSep Finset.univ fun x : Copy => done x d) ⊢ (|={Set.univ}=> bigSep Finset.univ fun x : Copy => closed x d : sProp 𝕄) :=
  (bigSep_with_persistent fun x _ => close_copy XA XB K x d).trans (bigSep_fupd _ _)

theorem close_bar (d : Dev nD) : iprop(recs XA XB K ∗ atPos ER (barC d) 1 ∅ 0) ⊢ (|={Set.univ}=> semVal (barC d) 0 : sProp 𝕄) := by
  iintro ⟨#HR, H1⟩
  ihave I1 := (recs_at XA XB K (d, none)) $$ HR
  icases I1 with ⟨#I1, -⟩
  iapply (Rounds.cell_close ER (sched XA XB) (Set.mem_univ (K (d, none))) (fun h => h) (R := 1) (duties_later XA XB (barC d)))
  isplitr; · iexact I1
  iexact H1

/-! ## The whole body -/

/-- The device's block of B. -/
abbrev bOwn (d : Dev nD) : sProp 𝕄 := owns (d : Thread nD τ) bM fullShare (XB d)

/-- All that a device has to do for others. -/
def duties : List Item := .inl 0 :: .inl 1 :: .inl 2 :: todo steps

/-- A device's own ghost state: its barrier's position and credit, the tokens of its signals, and that of its copies. -/
def barS3 (d : Dev nD) : sProp 𝕄 :=
  iprop(atPos ER (barC d) 0 ∅ 0 ∗ cred (tallyAt (barC d) () 3) ∗ bigSep Finset.univ fun a : Fin 3 => dutyTok ER (barC (nbr a d)) 0 a)

/-- What the body starts from, and what it ends with. -/
def enter (d : Dev nD) : sProp 𝕄 :=
  iprop(recs XA XB K ∗ levAts L lv ∗ barS3 d ∗ (bigSep Finset.univ fun x : Copy => held x d) ∗ scratch d ∗ any d oM ∗ aOwn XA d ∗ bOwn XB d ∗ debt d duties)
def leave (d : Dev nD) : sProp 𝕄 :=
  iprop(semVal (barC d) 0 ∗ (bigSep Finset.univ fun x : Copy => closed x d) ∗ scratch d ∗ owns (d : Thread nD τ) oM fullShare (out XA XB d) ∗ aOwn XA d ∗ bOwn XB d ∗ debt d [])

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem todo_above : ∀ i ∈ todo steps, 1 < itemLv i := by
  intro i hi
  obtain ⟨x, -, rfl⟩ := List.mem_map.mp hi
  show 1 < 2 + x.1.val
  omega

theorem body_wp (d : Dev nD) : iprop(enter XA XB K d ∗ (leave XA XB d -∗ Q ⟨⟩)) ⊢ WP d body Q := by
  unfold body enter barS3
  rw [bigSep_fin3]
  simp only [wp_deviceId]
  iintro ⟨⟨#HR, #Hl, ⟨Hat, Hc, T0, T1, T2⟩, Hheld, Hscr, Ho, Ha, Hb, HO⟩, Hk⟩
  ihave Hbuf := (split_buffers d) $$ [Hscr Ho]
  · isplitl [Hscr] <;> iassumption
  icases Hbuf with ⟨Hbuf, Hmine⟩
  ihave Hmine := (Entails.of_eq ((by_axis fun x => mine x d).trans (bigSep_fin3 _))) $$ Hmine
  icases Hmine with ⟨M0, M1, M2⟩
  unfold duties
  iapply (wp_bar XA XB K 0 d _) $$ [M0 T0 HO]
  · isplitr; · iexact HR
    isplitl [M0]; · iexact M0
    isplitl [T0]; · iexact T0
    iexact HO
  iintro HO
  iapply (wp_bar XA XB K 1 d _) $$ [M1 T1 HO]
  · isplitr; · iexact HR
    isplitl [M1]; · iexact M1
    isplitl [T1]; · iexact T1
    iexact HO
  iintro HO
  iapply (wp_bar XA XB K 2 d _) $$ [M2 T2 HO]
  · isplitr; · iexact HR
    isplitl [M2]; · iexact M2
    isplitl [T2]; · iexact T2
    iexact HO
  iintro HO
  iapply (wp_meet XA XB K d (todo steps) todo_above) $$ [Hat Hc HO]
  · isplitr; · iexact HR
    isplitr; · iexact Hl
    isplitl [Hat]; · iexact Hat
    isplitl [Hc]; · iexact Hc
    iexact HO
  iintro ⟨Hat, Hlands, HO⟩
  ihave HP := (pairs_start XA XB d) $$ [Hbuf Hlands Hheld]
  · isplitl [Hbuf]; · iexact Hbuf
    isplitl [Hlands] <;> iassumption
  icases HP with ⟨HP, Hspare⟩
  iapply (load_in 𝒱₀ (d : Thread nD τ) none Set.univ (m := bM)) $$ Hb; iintro Hb
  iapply (load_in 𝒱₀ (d : Thread nD τ) none Set.univ (m := bM)) $$ Hb; iintro Hb
  iapply (load_in 𝒱₀ (d : Thread nD τ) none Set.univ (m := bM)) $$ Hb; iintro Hb
  iapply (run_wp XA XB K d steps (fun _ => 0) valid_steps) $$ [Ha HP HO]
  · isplitr; · iexact HR
    isplitr; · iexact Hl
    isplitl [Ha]; · iexact Ha
    isplitl [HP] <;> iassumption
  iintro ⟨Ha, HP, HO⟩
  ihave HE := (pairs_end XA XB d) $$ [HP Hspare]
  · isplitl [HP] <;> iassumption
  icases HE with ⟨Hscr, Ho, HD⟩
  imod (close_all XA XB K d) $$ [HD] with HD
  · isplitr; · iexact HR
    iexact HD
  imod (close_bar XA XB K d) $$ [Hat] with Hat
  · isplitr; · iexact HR
    iexact Hat
  imodintro
  iapply Hk
  unfold leave
  isplitl [Hat]; · iexact Hat
  isplitl [HD]; · iexact HD
  isplitl [Hscr]; · iexact Hscr
  isplitl [Ho]; · iexact Ho
  isplitl [Ha]; · iexact Ha
  isplitl [Hb]; · iexact Hb
  iexact HO

end Cert.KernelIdeal.Proof
end
-- ==== Proof.Launch.lean ====
/-
  The launch.

  From the memory at the start to what the body starts from: the cells' ghost state is made and dealt out, every token to the device that
  raises the cell; the scratch buffers are told apart; the credits of what the neighbours owe are split cell by cell. Then the run of the
  whole program: it ends, every device's result is `out`, the arguments and all counters are as they were.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Blocks

variable {F : FTy → Type} [FloatOps F]

local notation "𝕄" => MT nD τ sig Unit (Elt F) ℕ UU ℕ

/-! ## The scratch buffers -/

omit [FloatOps F] in
theorem owns_whole_eq (d : Dev nD) (b : Ref sig .tc) (X : b.ty.Contents (Elt F)) :
    (owns (d : Thread nD τ) (Memref.whole b) fullShare X : sProp 𝕄) = iprop(∃ f : Buf (Elt F) ((d : Thread nD τ).loc b), ⌜f = X⌝ ∗ ((d : Thread nD τ).loc b ↦{fullShare} f)) := by
  unfold owns; simp only [Memref.view_whole, View.read_whole, View.set_whole]

/-- A buffer of a device, at any contents. -/
def buffer (d : Dev nD) (b : Ref sig .tc) : sProp 𝕄 := iprop(∃ f : Buf (Elt F) ((d : Thread nD τ).loc b), ((d : Thread nD τ).loc b) ↦{fullShare} f)

omit [FloatOps F] in
theorem any_whole (d : Dev nD) (b : Ref sig .tc) : (iprop(∃ X, owns (d : Thread nD τ) (Memref.whole b) fullShare X) : sProp 𝕄) = buffer d b := by
  unfold buffer
  simp only [owns_whole_eq]
  refine Entails.antisymm ?_ ?_ <;> show (_ : sProp 𝕄) ⊢ _
  · iintro ⟨%X, %f, -, H⟩; iexists f; iexact H
  · iintro ⟨%f, H⟩; iexists f; iexists f
    isplitr; · (ipureintro; rfl)
    iexact H

/-- The buffers a pair sends from and receives into. -/
def pairRef (kt : Fin 6 × Pair) : Ref sig .tc :=
  match kt with
  | (0, ci, p) => (sM0 ci p).view.ref
  | (1, ci, p) => (sM1 ci p).view.ref
  | (2, ci, p) => (sM2 ci p).view.ref
  | (3, ci, p) => (rM0 ci p).view.ref
  | (4, ci, p) => (rM1 ci p).view.ref
  | (5, ci, p) => (rM2 ci p).view.ref

theorem pairRef_injective : ∀ x y : Fin 6 × Pair, pairRef x = pairRef y → x = y := by decide +kernel
theorem pairRef_ne : ∀ x : Fin 6 × Pair, cc0_scratch0 ≠ pairRef x := by decide +kernel
theorem scoped_refs : ((Finset.univ.filter fun b : Ref sig .tc => b.isScoped = true) \ Finset.univ.image (Pipeline.stageRef cfg0.spec))
    = insert cc0_scratch0 (Finset.univ.map ⟨pairRef, pairRef_injective⟩) := by decide +kernel

omit [FloatOps F] in
theorem outgoing_eq (t : Pair) (d : Dev nD) :
    (outgoing t d : sProp 𝕄) = iprop(buffer d (pairRef (0, t)) ∗ buffer d (pairRef (1, t)) ∗ buffer d (pairRef (2, t))) := by
  obtain ⟨ci, p⟩ := t
  simp only [← any_whole]
  fin_cases ci <;> fin_cases p <;> rfl
omit [FloatOps F] in
theorem incoming_eq (t : Pair) (d : Dev nD) :
    (incoming t d : sProp 𝕄) = iprop(buffer d (pairRef (3, t)) ∗ buffer d (pairRef (4, t)) ∗ buffer d (pairRef (5, t))) := by
  obtain ⟨ci, p⟩ := t
  simp only [← any_whole]
  fin_cases ci <;> fin_cases p <;> rfl

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- The scratch buffers are those of the launch. -/
theorem scratch_eq (d : Dev nD) : (Pipeline.scopedRest cfg0.spec d : sProp 𝕄) = scratch d := by
  unfold Pipeline.scopedRest scratch
  rw [scoped_refs]
  show bigSep _ (fun b => buffer d b) = _
  rw [show bigSep (insert cc0_scratch0 (Finset.univ.map ⟨pairRef, pairRef_injective⟩)) (fun b => (buffer d b : sProp 𝕄))
      = iprop(buffer d cc0_scratch0 ∗ bigSep (Finset.univ.map ⟨pairRef, pairRef_injective⟩) fun b => buffer d b) from bigSep_insert (by
      intro h
      obtain ⟨x, -, e⟩ := Finset.mem_map.mp h
      exact pairRef_ne x e.symm),
    bigSep_map, bigSep_univ_prod (α := Fin 6) (β := Pair), bigSep_fin6]
  simp only [outgoing_eq, incoming_eq, bigSep_sep']
  rw [← any_whole]
  refine Entails.antisymm ?_ ?_ <;> show (_ : sProp 𝕄) ⊢ _
  · iintro ⟨H, H0, H1, H2, H3, H4, H5⟩
    isplitl [H]; · iexact H
    isplitl [H0 H1 H2]
    · isplitl [H0]; · iexact H0
      isplitl [H1]; · iexact H1
      iexact H2
    isplitl [H3]; · iexact H3
    isplitl [H4]; · iexact H4
    iexact H5
  · iintro ⟨H, ⟨H0, H1, H2⟩, H3, H4, H5⟩
    isplitl [H]; · iexact H
    isplitl [H0]; · iexact H0
    isplitl [H1]; · iexact H1
    isplitl [H2]; · iexact H2
    isplitl [H3]; · iexact H3
    isplitl [H4]; · iexact H4
    iexact H5

/-! ## The launch's credits -/

/-- Along an axis, the cube onto itself. -/
def flip (a : Fin 3) : Dev nD ≃ Dev nD := ⟨nbr a, nbr a, nbr_nbr a, nbr_nbr a⟩

theorem duties_nodup : duties.Nodup := by decide +kernel
theorem duties_all : duties.toFinset = Finset.univ :=
  Finset.eq_univ_of_card _ ((List.toFinset_card_of_nodup duties_nodup).trans (by decide +kernel))

theorem owed_sum (d : Dev nD) (l : List Item) : owed d l = (l.map fun i => tallyAt (itemCell d i) () (itemN i)).sum := by
  induction l with
  | nil => rfl
  | cons i l ih => rw [List.map_cons, List.sum_cons, ← ih, add_comm]; rfl

/-- What the others owe a device: three signals at its barrier, and every copy that it receives. -/
def due (d : Dev nD) : CellTallies nD τ sig Unit :=
  tallyAt (barC d) () 3 + ∑ x : Copy, tallyAt (recvC x d) () (cN x.1)

theorem owed_duties (d : Dev nD) :
    owed d duties = (∑ a : Fin 3, tallyAt (barC (nbr a d)) () 1) + ∑ x : Copy, tallyAt (recvC x (nb x d)) () (cN x.1) := by
  rw [owed_sum, ← List.sum_toFinset _ duties_nodup, duties_all, Fintype.sum_sum_type]
  rfl

theorem due_sum : (∑ d, owed d duties) = ∑ d, due d := by
  rw [Finset.sum_congr rfl fun d _ => owed_duties d, Finset.sum_add_distrib]
  unfold due
  rw [Finset.sum_add_distrib]
  congr 1
  · rw [Finset.sum_comm, Finset.sum_congr rfl fun (a : Fin 3) _ => show (∑ d, tallyAt (barC (nbr a d)) () 1) = ∑ d, tallyAt (barC d) () 1 from Equiv.sum_comp (flip a) fun d => tallyAt (barC d) () 1, Finset.sum_comm]
    refine Finset.sum_congr rfl fun d _ => ?_
    rw [Fin.sum_univ_three, show (3 : ℕ) = 1 + 1 + 1 from rfl, tallyAt_add, tallyAt_add]
  · rw [Finset.sum_comm, Finset.sum_congr rfl fun (x : Copy) _ => show (∑ d, tallyAt (recvC x (nb x d)) () (cN x.1)) = ∑ d, tallyAt (recvC x d) () (cN x.1) from
      Equiv.sum_comp (flip (ax x.1 x.2.2)) fun d => tallyAt (recvC x d) () (cN x.1), Finset.sum_comm]

theorem due_core (d : Dev nD) (g : GSem nD τ sig) (h : due d g ≠ 0) : g.1 = (d.tc : Thread nD τ) := by
  by_contra hg
  refine h ?_
  have hne (k : CIdx) : g ≠ kcell (d, k) := fun e => hg (by rw [e])
  unfold due
  rw [Pi.add_apply, tallyAt_ne_cell (hne _), Finset.sum_apply, Finset.sum_eq_zero fun x _ => tallyAt_ne_cell (hne _) _ _, add_zero]

omit [FloatOps F] in
theorem creds (d : Dev nD) :
    (Pipeline.launchCred (fun d => owed d duties) d : sProp 𝕄)
      ⊢ iprop(cred (tallyAt (barC d) () 3) ∗ bigSep Finset.univ fun x : Copy => cred (tallyAt (recvC x d) () (cN x.1))) := by
  rw [Pipeline.launchCred_of_sum (fun d => owed d duties) due due_sum due_core d, ← Pipeline.cred_finsetSum]
  exact (cred_add _ _).1

/-! ## The cells' ghost state -/

omit [FloatOps F] in
/-- A sum over a device's cells: the barrier's, and each copy's two. -/
theorem by_cell (Φ : CIdx → sProp 𝕄) :
    bigSep Finset.univ Φ = iprop(Φ none ∗ (bigSep Finset.univ fun x : Copy => Φ (some (false, x))) ∗ bigSep Finset.univ fun x : Copy => Φ (some (true, x))) := by
  rw [show (Finset.univ : Finset CIdx) = insert none (Finset.univ.map Function.Embedding.some) from Finset.ext fun k => by cases k <;> simp,
    bigSep_insert (by simp), bigSep_map, bigSep_univ_prod (α := Bool) (β := Copy), bigSep_univ_eq_bigSepL [false, true] (by decide) (by decide)]
  rfl

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's blocks of A and B. -/
def XA (d : Dev nD) : Vec F S1536x768 .bf16 := (win0_0.blk (0 : Fin 1)).view.read (Elt F) ((s₀ m ρ).mem ((d : Thread nD τ).loc main_arg0))
def XB (d : Dev nD) : Vec F S768x1536 .bf16 := (win0_1.blk (0 : Fin 1)).view.read (Elt F) ((s₀ m ρ).mem ((d : Thread nD τ).loc main_arg1))

local notation "sch" => sched (XA m ρ) (XB m ρ)

def ringCells : Finset (GSem nD τ sig) := Finset.univ.map ⟨kcell, kcell_injective⟩

/-- The tokens of a device's own cells: its barrier's three, and one of each of a copy's two. -/
abbrev tokOf (t : Dev nD × (Fin 3 ⊕ Bool × Copy)) : GSem nD τ sig × ℕ × Fin 3 :=
  match t.2 with
  | .inl a => (barC t.1, 0, a)
  | .inr k => (kcell (t.1, some k), 0, 0)
theorem tokOf_injective : Function.Injective tokOf := by
  rintro ⟨d, j | j⟩ ⟨d', j' | j'⟩ h
  · have h1 := kcell_injective (Prod.ext_iff.mp h).1
    have h2 : j = j' := (Prod.ext_iff.mp (Prod.ext_iff.mp h).2).2
    rw [h2, show d = d' from congrArg Prod.fst h1]
  · exact absurd (congrArg Prod.snd (kcell_injective (Prod.ext_iff.mp h).1)) (by intro h; cases h)
  · exact absurd (congrArg Prod.snd (kcell_injective (Prod.ext_iff.mp h).1)) (by intro h; cases h)
  · have h1 := kcell_injective (Prod.ext_iff.mp h).1
    rw [show d = d' from congrArg Prod.fst h1, show j = j' from Option.some.inj (congrArg Prod.snd h1)]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of a device's own cells, and those of the cells that it raises. -/
def toks (d : Dev nD) : sProp 𝕄 :=
  iprop((bigSep Finset.univ fun a : Fin 3 => dutyTok ER (barC d) 0 a)
    ∗ (bigSep Finset.univ fun x : Copy => dutyTok ER (sendC x d) 0 0) ∗ bigSep Finset.univ fun x : Copy => dutyTok ER (recvC x d) 0 0)
def payToks (d : Dev nD) : sProp 𝕄 :=
  iprop((bigSep Finset.univ fun a : Fin 3 => dutyTok ER (barC (nbr a d)) 0 a)
    ∗ (bigSep Finset.univ fun x : Copy => dutyTok ER (sendC x d) 0 0) ∗ bigSep Finset.univ fun x : Copy => dutyTok ER (recvC x (nb x d)) 0 0)

/-- What the launch deals a device. -/
def G (d : Dev nD) : sProp 𝕄 :=
  iprop((bigSep Finset.univ fun k : CIdx => roundState ER sch (kcell (d, k)) 0)
    ∗ (bigSep Finset.univ fun k : CIdx => iprop(atPos ER (kcell (d, k)) 0 ∅ 0 ∗ reached ER (kcell (d, k)) 0)) ∗ toks d)

/-- A device's positions at its own cells, and its tokens. -/
def linear (d : Dev nD) : sProp 𝕄 := iprop((bigSep Finset.univ fun k : CIdx => atPos ER (kcell (d, k)) 0 ∅ 0) ∗ payToks d)
/-- What a device has of the ghost state once the cells are set up. -/
def G' (d : Dev nD) : sProp 𝕄 := iprop(∃ K, recs (XA m ρ) (XB m ρ) K ∗ linear d)

omit [FloatOps F] in
theorem bigSep_sum (Φ : (Fin 3 ⊕ Bool × Copy) → sProp 𝕄) :
    bigSep Finset.univ Φ = iprop((bigSep Finset.univ fun a => Φ (.inl a)) ∗ (bigSep Finset.univ fun x : Copy => Φ (.inr (false, x))) ∗ bigSep Finset.univ fun x : Copy => Φ (.inr (true, x))) := by
  rw [Idealize.SL.BI.bigSep_univ_sum, bigSep_univ_prod (α := Bool) (β := Copy), bigSep_univ_eq_bigSepL [false, true] (by decide) (by decide)]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun d : Dev nD => bigSep Finset.univ fun k : CIdx => Φ (kcell (d, k)) := by
    unfold ringCells; rw [bigSep_map, bigSep_univ_prod]; rfl
  have hT : bigSep ringToks (fun x => (dutyTok ER x.1 x.2.1 x.2.2 : sProp 𝕄)) = bigSep Finset.univ fun d : Dev nD => toks d := by
    unfold ringToks; rw [bigSep_map, bigSep_univ_prod]
    exact bigSep_congr fun d _ => by unfold toks; rw [bigSep_sum]; rfl
  iintro HX
  imod (Rounds.fund ER sch ringCells ringToks) $$ HX with ⟨Hst, Hr, Hat, Htok⟩
  imodintro
  ihave Hst' := (Entails.of_eq (hX fun g => roundState ER sch g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the two of each copy. -/
abbrev osem (k : Bool × Copy) : SemLoc sig := csem (some k)

theorem osem_scoped : ∀ k : Bool × Copy, (osem k).isScoped .tc = true := by decide +kernel

omit [FloatOps F] in
theorem ownSems0_eq (d : Dev nD) : (Pipeline.ownSems0 (Ix := Unit) (Name := ℕ) (U := UU) (Lvl := ℕ) (Val := Elt F) (τ := τ) osem d : sProp 𝕄)
    = iprop((bigSep Finset.univ fun x : Copy => semVal (sendC x d) 0) ∗ bigSep Finset.univ fun x : Copy => semVal (recvC x d) 0) := by
  unfold Pipeline.ownSems0
  rw [bigSep_univ_prod (α := Bool) (β := Copy), bigSep_univ_eq_bigSepL [false, true] (by decide) (by decide)]
  rfl
omit [FloatOps F] in
theorem unscopedSems0_eq (d : Dev nD) : (unscopedSems0 d : sProp 𝕄) = semVal (barC d) 0 := by
  unfold unscopedSems0; rw [bigSep_eq_bigSepL_of_eq [SemLoc.reg barS] (by decide) (by decide)]; rfl

omit [FloatOps F] in
theorem sems0_eq (d : Dev nD) :
    iprop(Pipeline.ownSems0 (Ix := Unit) (Name := ℕ) (U := UU) (Lvl := ℕ) (Val := Elt F) (τ := τ) osem d ∗ unscopedSems0 d)
      ⊢ (bigSep Finset.univ fun k : CIdx => semVal (kcell (d, k)) 0 : sProp 𝕄) := by
  rw [ownSems0_eq, unscopedSems0_eq, by_cell]
  iintro ⟨HC, HB⟩
  isplitl [HB] <;> iassumption

theorem core_alloc (d : Dev nD) :
    iprop(Pipeline.ownSems0 (Ix := Unit) (Name := ℕ) (U := UU) (Lvl := ℕ) (Val := Elt F) (τ := τ) osem d ∗ unscopedSems0 d ∗ G m ρ d)
      ⊢ |={Set.univ}=> iprop((bigSep Finset.univ fun k => iprop(∃ κ : ℕ, cellInv ER sch κ (kcell (d, k))))
          ∗ (bigSep Finset.univ fun k => iprop(atPos ER (kcell (d, k)) 0 ∅ 0 ∗ reached ER (kcell (d, k)) 0)) ∗ toks d) := by
  unfold G
  iintro ⟨Hos, Hus, Hst, Hat, Htok⟩
  ihave Hv := (sems0_eq (F := F) d) $$ [Hos Hus]
  · isplitl [Hos] <;> iassumption
  imod (show iprop((bigSep Finset.univ fun k : CIdx => semVal (kcell (d, k)) 0) ∗ bigSep Finset.univ fun k : CIdx => roundState ER sch (kcell (d, k)) 0)
      ⊢ (|={Set.univ}=> bigSep Finset.univ fun k => iprop(∃ κ : ℕ, cellInv ER sch κ (kcell (d, k))) : sProp 𝕄) from by
        rw [← bigSep_sep']
        exact (bigSep_mono fun k _ => (Rounds.body_intro ER sch (kcell (d, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A sum over devices and over things that name an axis, each moved along its axis. -/
theorem bigSep_moved {I : Type} [DecidableEq I] [Fintype I] (a : I → Fin 3) (Φ : I → Dev nD → sProp 𝕄) :
    (bigSep Finset.univ fun d : Dev nD => bigSep Finset.univ fun i : I => Φ i d) = bigSep Finset.univ fun d : Dev nD => bigSep Finset.univ fun i : I => Φ i (nbr (a i) d) := by
  rw [← bigSep_univ_prod (fun t : Dev nD × I => Φ t.2 t.1), ← bigSep_univ_prod (fun t : Dev nD × I => Φ t.2 (nbr (a t.2) t.1))]
  exact bigSep_univ_equiv (⟨fun t => (nbr (a t.2) t.1, t.2), fun t => (nbr (a t.2) t.1, t.2),
    fun t => Prod.ext (nbr_nbr _ _) rfl, fun t => Prod.ext (nbr_nbr _ _) rfl⟩ : Dev nD × I ≃ Dev nD × I) (fun t : Dev nD × I => Φ t.2 t.1)

omit [FloatOps F] in
/-- Every token goes to the device that raises its cell. -/
theorem toks_around : (bigSep Finset.univ fun d : Dev nD => (toks d : sProp 𝕄)) = bigSep Finset.univ fun d : Dev nD => payToks d := by
  unfold toks payToks
  rw [bigSep_sep', bigSep_sep', bigSep_sep', bigSep_sep', bigSep_moved (fun a => a) fun a d => dutyTok ER (barC d) 0 a,
    bigSep_moved (fun x : Copy => ax x.1 x.2.2) fun x d => dutyTok ER (recvC x d) 0 0]

theorem regroup :
    (bigSep Finset.univ fun d : Dev nD => iprop((bigSep Finset.univ fun k => iprop(∃ κ : ℕ, cellInv ER sch κ (kcell (d, k))))
          ∗ (bigSep Finset.univ fun k => iprop(atPos ER (kcell (d, k)) 0 ∅ 0 ∗ reached ER (kcell (d, k)) 0)) ∗ toks d) : sProp 𝕄)
      ⊢ bigSep Finset.univ (G' m ρ) := by
  rw [bigSep_sep', bigSep_sep', ← bigSep_univ_prod (fun ck : Dev nD × CIdx => iprop(∃ κ : ℕ, cellInv ER sch κ (kcell ck))),
    bigSep_congr (s := Finset.univ) (fun (d : Dev nD) _ => bigSep_sep' Finset.univ (fun k : CIdx => (atPos ER (kcell (d, k)) 0 ∅ 0 : sProp 𝕄)) (fun k => reached ER (kcell (d, k)) 0)),
    bigSep_sep', ← bigSep_univ_prod (fun ck : Dev nD × CIdx => (reached ER (kcell ck) 0 : sProp 𝕄)), toks_around]
  iintro ⟨HI, ⟨Hat, #HR⟩, Htok⟩
  ihave HK := (BI.bigSep_exists_pi Finset.univ (fun (ck : Dev nD × CIdx) (κ : ℕ) => (cellInv ER sch κ (kcell ck) : sProp 𝕄))) $$ HI
  icases HK with ⟨%K, #HI⟩
  iapply (bigSep_with_persistent (R := recs (XA m ρ) (XB m ρ) K) (Φ := linear) fun d _ => show _ ⊢ G' m ρ d from by
    unfold G'
    iintro H
    iexists K
    iexact H)
  isplitr
  · unfold recs
    rw [bigSep_sep']
    isplitl; · iexact HI
    iexact HR
  · unfold linear
    rw [bigSep_sep']
    isplitl [Hat] <;> iassumption

theorem glob : (bigSep Finset.univ fun d => iprop(Pipeline.ownSems0 (Ix := Unit) (Name := ℕ) (U := UU) (Lvl := ℕ) (Val := Elt F) (τ := τ) osem d ∗ unscopedSems0 d ∗ G m ρ d) : sProp 𝕄)
    ⊢ |={Set.univ}=> bigSep Finset.univ (G' m ρ) :=
  ((bigSep_mono fun d _ => core_alloc m ρ d).trans (bigSep_fupd _ _)).trans (BI.fupd_mono (regroup m ρ))

/-! ## The pipeline's data -/

/-- What a device holds when the body starts: the ghost state, the credits, the levels. -/
def start (d : Dev nD) : sProp 𝕄 :=
  iprop(G' m ρ d ∗ (cred (tallyAt (barC d) () 3) ∗ bigSep Finset.univ fun x : Copy => cred (tallyAt (recvC x d) () (cN x.1))) ∗ levAts L lv)
def Φ₀ (d : Dev nD) : sProp 𝕄 := iprop(start m ρ d ∗ scratch d)
def Φ₁ (d : Dev nD) : sProp 𝕄 := iprop(scratch d ∗ (bigSep Finset.univ fun x : Copy => closed x d) ∗ semVal (barC d) 0)

def dats (_ : Fin 1) (d : Dev nD) : Dat τ (Elt F) Unit ℕ UU ℕ cfg0 d where
  A w := (s₀ m ρ).mem ((cfg0.win w).arr.view.loc (d : Thread nD τ))
  after w _ := match w with
    | 0 => XA m ρ d
    | 1 => XB m ρ d
    | 2 => out (XA m ρ) (XB m ρ) d
  Φ t := match t with
    | ⟨0, _⟩ => Φ₀ m ρ d
    | ⟨_ + 1, _⟩ => Φ₁ d
  q _ := fullShare
  owed t := match t with
    | ⟨0, _⟩ => owed d duties
    | ⟨_ + 1, _⟩ => 0

theorem share_eq (d : Dev nD) (w : Fin cfg0.W) : (dats m ρ 0 d).share w = fullShare := by unfold Dat.share; split <;> rfl

theorem before_0 (d : Dev nD) (g : (cfg0.win (0 : Fin 3)).block.Idx → Elt F (cfg0.win (0 : Fin 3)).elt) : (dats m ρ 0 d).before (0 : Fin 3) t0_0 g = XA m ρ d := by
  unfold Dat.before; rw [if_pos (fetch0_0 t0_0)]; rfl
theorem before_1 (d : Dev nD) (g : (cfg0.win (1 : Fin 3)).block.Idx → Elt F (cfg0.win (1 : Fin 3)).elt) : (dats m ρ 0 d).before (1 : Fin 3) t0_0 g = XB m ρ d := by
  unfold Dat.before; rw [if_pos (fetch0_1 t0_0)]; rfl

theorem ghost_enter (d : Dev nD) :
    iprop(Φ₀ m ρ d ∗ aOwn (XA m ρ) d ∗ bOwn (XB m ρ) d ∗ any d oM ∗ debt d duties) ⊢ (iprop(∃ K, enter (XA m ρ) (XB m ρ) K d) : sProp 𝕄) := by
  unfold Φ₀ start G' linear payToks enter barS3 held tokS waitS
  rw [by_cell]
  simp only [bigSep_sep']
  iintro ⟨⟨⟨⟨%K, #HR, ⟨P, PS, PR⟩, TB, TS, TR⟩, ⟨C, CR⟩, #Hl⟩, Hscr⟩, Ha, Hb, Ho, HO⟩
  iexists K
  isplitr; · iexact HR
  isplitr; · iexact Hl
  isplitl [P C TB]
  · isplitl [P]; · iexact P
    isplitl [C]; · iexact C
    iexact TB
  isplitl [PS PR TS TR CR]
  · isplitl [TS TR]
    · isplitl [TS]; · iexact TS
      iexact TR
    isplitl [PS]; · iexact PS
    isplitl [PR]; · iexact PR
    iexact CR
  isplitl [Hscr]; · iexact Hscr
  isplitl [Ho]; · iexact Ho
  isplitl [Ha]; · iexact Ha
  isplitl [Hb]; · iexact Hb
  iexact HO

set_option maxRecDepth 65536 in
/-- The library's body obligation. -/
theorem body_obligation (d : Dev nD) : BodyObligation (dats (F := F) m ρ 0 d) (defs₀ (F := F)) 𝒱₀ () Set.univ := fun t => by
  rw [fin_N0 t]
  rw [bigSep_W0, bigSep_W0]
  show iprop(Φ₀ m ρ d ∗ (dats m ρ 0 d).owesAt () t0_0.castSucc
      ∗ (∃ g, owns (d : Thread nD τ) aM fullShare ((dats m ρ 0 d).before (0 : Fin 3) t0_0 g))
      ∗ (∃ g, owns (d : Thread nD τ) bM fullShare ((dats m ρ 0 d).before (1 : Fin 3) t0_0 g))
      ∗ (∃ g, owns (d : Thread nD τ) oM fullShare ((dats m ρ 0 d).before (2 : Fin 3) t0_0 g)))
    ⊢ WP d (bodyAt0 t0_0) fun _ => iprop(Φ₁ d ∗ (dats m ρ 0 d).owesAt () t0_0.succ ∗ aOwn (XA m ρ) d ∗ bOwn (XB m ρ) d
      ∗ owns (d : Thread nD τ) oM fullShare (out (XA m ρ) (XB m ρ) d))
  rw [body_eq]
  unfold Dat.owesAt Pipeline.owesWithin
  rw [show (dats m ρ 0 d).owed t0_0.castSucc = owed d duties from rfl, show (dats m ρ 0 d).owed t0_0.succ = owed d [] from rfl]
  simp only [before_0, before_1]
  iintro ⟨HΦ, ⟨%W, -, HO⟩, ⟨%ga, Ha⟩, ⟨%gb, Hb⟩, ⟨%go, Ho⟩⟩
  ihave HE := (ghost_enter m ρ d) $$ [HΦ HO Ha Hb Ho]
  · isplitl [HΦ]; · iexact HΦ
    isplitl [Ha]; · iexact Ha
    isplitl [Hb]; · iexact Hb
    isplitl [Ho]
    · iexists _; iexact Ho
    unfold debt
    iexists W; iexact HO
  icases HE with ⟨%K, HE⟩
  iapply (body_wp (XA m ρ) (XB m ρ) K d)
  isplitl [HE]; · iexact HE
  unfold leave Φ₁ debt
  iintro ⟨Hbar, Hcl, Hscr, Ho, Ha, Hb, ⟨%W', HO⟩⟩
  isplitl [Hbar Hcl Hscr]
  · isplitl [Hscr]; · iexact Hscr
    isplitl [Hcl]; · iexact Hcl
    iexact Hbar
  isplitl [HO]
  · iexists W'
    isplitr; · ipureintro; exact fun _ _ => Or.inl trivial
    iexact HO
  isplitl [Ha]; · iexact Ha
  isplitl [Hb]; · iexact Hb
  iexact Ho

/-! ## The theorem's side conditions -/

theorem ownSemFacts : Pipeline.OwnSemFacts cfg0.spec osem :=
  ⟨osem_scoped, fun _ _ h => Option.some.inj (csem_injective h), by decide +kernel⟩

theorem start_intro (d : Dev nD) :
    iprop(Pipeline.unscopedRestP Pipeline.Prefetch.none cfg0.spec d (fun b => m ((d : Thread nD τ).loc b)) ∗ levAts L lv
        ∗ Pipeline.launchCred (fun d => owed d duties) d ∗ prngReg d (ρ d) ∗ G' m ρ d)
      ⊢ |={Set.univ}=> iprop(start m ρ d ∗ emp) := by
  iintro ⟨-, Hlev, Hcr, -, HG⟩
  ihave Hc := (creds (F := F) d) $$ Hcr
  imodintro
  unfold start
  isplitl
  · isplitl [HG]; · iexact HG
    isplitl [Hc]; · iexact Hc
    iexact Hlev
  · iempintro

theorem phi0_intro (d : Dev nD) :
    iprop(start m ρ d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m ρ d from rfl, scratch_eq]
  unfold Φ₀
  iintro ⟨Hs, -, Hr⟩
  isplitl [Hs] <;> iassumption

theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ d from rfl, scratch_eq, ownSems0_eq, unscopedSems0_eq]
  unfold Φ₁ closed
  rw [bigSep_sep']
  iintro ⟨Hr, Hc, Hb⟩
  isplitl [Hb]; · iexact Hb
  isplitl [Hc] <;> iassumption

theorem stage_sem_ne : ∀ (k : CIdx) (w : Fin 3) (s : Fin (cfg0.spec w).nbuf), csem k ≠ .dma ((cfg0.spec w).sem s) := by decide +kernel

theorem item_pos (i : Item) : 0 < itemLv i :=
  match i with
  | .inl _ => Nat.one_pos
  | .inr x => by show 0 < 2 + x.1.val; omega

theorem stage_waits (d : Dev nD) : (levAts L lv : sProp 𝕄) ⊢ Pipeline.cellsWaits cfgs (dats m ρ) () 0 d :=
  Pipeline.cellsWaits_intro cfgs (dats m ρ) () 0 d fun w s t => by
    have hlv : lv ((d : Thread nD τ), .dma ((cfg0.spec w).sem s)) () ≤ 0 := by
      show lvOf (cidx _) ≤ 0
      unfold cidx
      rw [dif_neg fun ⟨k, h⟩ => stage_sem_ne k w s h]
      exact le_refl 0
    rcases t with ⟨_ | _, ht⟩
    · exact mayWait d _ duties 0 hlv fun i _ => item_pos i
    · exact mayWait d _ [] 0 hlv fun i h => absurd h List.not_mem_nil

/-! ## The run -/

def finalA (d : Dev nD) (w : Fin cfg0.W) : Buf (Elt F) ((cfg0.win w).arr.view.loc (d : Thread nD τ)) := (dats m ρ 0 d).arrAt w cfg0.N

def QC : PUnit × MemSt nD τ sig (Elt F) → Prop := fun r =>
  ∀ d : Dev nD, ∀ w : Fin cfg0.W, r.2.mem ((cfg0.win w).arr.view.loc (d : Thread nD τ)) = finalA m ρ d w

set_option maxRecDepth 65536 in
/-- From any memory with zero counters, every weakly fair execution of the program ends, every array of a window at the computed
    contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d duties) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun d => unscopedSems0 d) (Z := fun _ => iprop(emp))
    (hX := start_intro m ρ) (hin := phi0_intro m ρ) (hout := phi1_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The arguments hold what they held, and the result what the body left. -/
theorem finalA_a (d : Dev nD) : finalA m ρ d (0 : Fin 3) = m ((d : Thread nD τ).loc main_arg0) :=
  (dats (F := F) m ρ 0 d).arrAt_in (0 : Fin 3) rfl _
theorem finalA_b (d : Dev nD) : finalA m ρ d (1 : Fin 3) = m ((d : Thread nD τ).loc main_arg1) :=
  (dats (F := F) m ρ 0 d).arrAt_in (1 : Fin 3) rfl _
theorem finalA_o (d : Dev nD) :
    (win0_2.blk (0 : Fin 1)).view.read (Elt F) (finalA m ρ d (2 : Fin 3)) = out (XA m ρ) (XB m ρ) d := by
  unfold finalA
  rw [show cfg0.N = ((0 : Fin 1) : Fin cfg0.N).val + 1 from rfl, (dats m ρ 0 d).arrAt_succ (2 : Fin 3) (0 : Fin 1)]
  rw [show (cfg0.win (2 : Fin 3)).flush (0 : Fin 1) = true from flush0_2 _, if_pos rfl]
  exact View.read_write_univ _ _

/-- The program leaves its arguments and its counters as they were. -/
theorem run_frame : θ_run defs (onTc (τ := τ) (main (F := F))) (s₀ m ρ) (fun r => (∀ d : Dev nD,
    r.2.mem ((d.tc : Thread nD τ).loc main_arg0) = m ((d.tc : Thread nD τ).loc main_arg0)
    ∧ r.2.mem ((d.tc : Thread nD τ).loc main_arg1) = m ((d.tc : Thread nD τ).loc main_arg1)) ∧ r.2.sem = fun _ => 0) :=
  (θ_run defs _ _).mono (fun _ h => ⟨fun d => ⟨(h.1 d (0 : Fin 3)).trans (finalA_a m ρ d), (h.1 d (1 : Fin 3)).trans (finalA_b m ρ d)⟩, h.2⟩) (run_main m ρ)

end Cert.KernelIdeal.Proof
end
-- ==== Proof.Value.lean ====
/-
  The value on the extended reals: what a device ends with is the whole product, passed through z / (1 + exp(-z)).

  A device's product of its own blocks is `term`. A quarter is exchanged with the neighbours along the three axes in turn, and after each
  exchange it holds the sum of twice as many devices' terms; after the third it holds all eight.
-/
module

public import proofs.«01_k».proof.Proof.Launch
public import proofs.«01_k».proof.Proof.Gen.ReferenceIdeal.Run
public import Idealize.ShloMosaic.Lib.Pointwise
public import Idealize.ShloMosaic.Lib.ValueIdx
public import Idealize.ShloMosaic.Lib.Layout
public import Idealize.ShloMosaic.Lib.IdealHost

@[expose] public section

noncomputable section

namespace Cert.KernelIdeal.Proof

open Idealize.ShloMosaic Idealize.ShloMosaic.TcCoe
open Idealize.SL.Sem
open Cert.KernelIdeal.Gen Cert.Blocks

/-! ## The operations at an index -/

theorem pay4_at (b : FVec Ideal S768x512 .bf16) (a : Vec Ideal S256x768 .bf16) (j : S256x512.Idx) :
    k0_pay4 b a j = ∑ k : Fin 768, a (ix2 (j 0) k) * b (ix2 k (j 1)) := by
  pointwise [k0_pay4]

theorem pay14_at (b : FVec Ideal S768x512 .bf16) (a : Vec Ideal S256x768 .bf16) (j : S256x512.Idx) :
    k0_pay14 b a j = ∑ k : Fin 768, a (ix2 (j 0) k) * b (ix2 k (j 1)) := by
  pointwise [k0_pay14]

theorem pay24_at (z : Vec Ideal S128x512 .f32) (s : Vec Ideal S128x512 .bf16) (j : S128x512.Idx) : k0_pay24 z s j = z j + s j := by
  pointwise [k0_pay24]

theorem pay27_at (z : Vec Ideal S128x512 .f32) (s : Vec Ideal S128x512 .bf16) (j : S128x512.Idx) : k0_pay27 z s j = z j + s j := by
  pointwise [k0_pay27]

/-- The function after the product. -/
def act (z : EReal) : EReal := Ideal.div z (1 + Ideal.exp (-z))

theorem pay64_at (z : Vec Ideal S128x512 .f32) (s : Vec Ideal S128x512 .bf16) (j : S128x512.Idx) : k0_pay64 z s j = act (z j + s j) := by
  pointwise [k0_pay64, act]
  rw [zero_sub]

/-! ## One device's share of the product, and where the blocks lie in it -/

section Sums

variable (XA : Dev nD → Vec Ideal S1536x768 .bf16) (XB : Dev nD → Vec Ideal S768x1536 .bf16)

/-- Device d's share of the product at an index. -/
def term (d : Dev nD) (i : SW.Idx) : EReal := ∑ k : Fin 768, XA d (ix2 (i 0) k) * XB d (ix2 k (i 1))

/-- Reading a whole at a quarter's index of a half is reading it at the quarter of the whole. -/
theorem emb_in (ci p : Fin 3) (h k : Fin 2) (j : SQ.Idx) : (rHalf ci p h).emb ((rIn k).emb j) = (rQuart ci p h k).emb j := by
  refine funext fun a => Fin.ext ?_
  have := off_sum ci p h k a
  simp only [Rect.emb_apply, Rect.off_unit, Rect.stride_unit, Nat.one_mul]
  omega

/-- The indices of the operands in a half's product. -/
theorem colB_at (ci : Fin 3) (d : Dev nD) (k : Fin 768) (p : Fin 3) (h : Fin 2) (j : SH.Idx) :
    colB XB ci d (ix2 k (j 1)) = XB d (ix2 k ((rHalf ci p h).emb j 1)) := by
  have e (off : Fin 2 → ℕ) (o : off = ![0, 512 * ci.val]) (inb : ∀ a, off a + S768x512.size a ≤ S768x1536.size a) :
      XB d ((Rect.unit (s := S768x1536) off S768x512.size inb).emb (ix2 k (j 1))) = XB d (ix2 k ((rHalf ci p h).emb j 1)) := by
    subst o
    refine congrArg (XB d) (funext fun a => Fin.ext ?_)
    fin_cases a <;> simp [Rect.emb_apply]
  fin_cases ci
  · refine Eq.trans ?_ (e _ rfl Facts₀.inb_S768x1536_S768x512_0_0); pointwise [colB, k0_pay1]
  · refine Eq.trans ?_ (e _ rfl Facts₀.inb_S768x1536_S768x512_0_512); pointwise [colB, k0_pay2]
  · refine Eq.trans ?_ (e _ rfl Facts₀.inb_S768x1536_S768x512_0_1024); pointwise [colB, k0_pay3]

theorem rowA_at (p : Fin 3) (d : Dev nD) (h : Fin 2) (ci : Fin 3) {off : Fin 2 → ℕ} (e : off = ![512 * p.val + 256 * h.val, 0])
    (inb : ∀ a, off a + S256x768.size a ≤ S1536x768.size a) (k : Fin 768) (j : SH.Idx) :
    XA d ((Rect.unit (s := S1536x768) off S256x768.size inb).emb (ix2 (j 0) k)) = XA d (ix2 ((rHalf ci p h).emb j 0) k) := by
  subst e
  refine congrArg (XA d) (funext fun a => Fin.ext ?_)
  fin_cases a <;> simp [Rect.emb_apply]

theorem oth_eq : ∀ b : Fin 2, oth b = (1 - b).val := by decide

theorem P0_at (ci p : Fin 3) (d : Dev nD) (j : SH.Idx) : P0 XA XB ci p d j = term XA XB d ((rHalf ci p (1 - b0 p d)).emb j) := by
  refine (pay4_at _ _ j).trans (Finset.sum_congr rfl fun k _ => ?_)
  rw [rowA_at XA p d (1 - b0 p d) ci ((offAs_eq p d).trans (by rw [oth_eq])), colB_at XB ci d k p (1 - b0 p d) j]

theorem Z0_at (ci p : Fin 3) (d : Dev nD) (j : SH.Idx) : Z0 XA XB ci p d j = term XA XB d ((rHalf ci p (b0 p d)).emb j) := by
  refine (pay14_at _ _ j).trans (Finset.sum_congr rfl fun k _ => ?_)
  rw [rowA_at XA p d (b0 p d) ci (offAk_eq p d), colB_at XB ci d k p (b0 p d) j]

/-! ## The three exchanges -/

/-- The sums over two, four and all devices. -/
def sum2 (p : Fin 3) (d : Dev nD) (i : SW.Idx) : EReal := term XA XB d i + term XA XB (nbr (ax 0 p) d) i
def sum4 (p : Fin 3) (d : Dev nD) (i : SW.Idx) : EReal := sum2 XA XB p d i + sum2 XA XB p (nbr (ax 1 p) d) i
def sum8 (i : SW.Idx) : EReal := ∑ e : Dev nD, term XA XB e i

/-- The first exchange: the two halves that are added lie in the same place of the result. -/
theorem first_at (ci p : Fin 3) (d : Dev nD) (k : Fin 2) (j : SQ.Idx) :
    part k (Z0 XA XB ci p d) j + part k (P0 XA XB ci p (nbr (ax 0 p) d)) j = sum2 XA XB p d ((rQuart ci p (b0 p d) k).emb j) := by
  have e : 1 - b0 p (nbr (ax 0 p) d) = b0 p d := by rw [b0, bit_nbr, sub_sub_cancel]
  unfold part sum2
  rw [Z0_at, P0_at, e, emb_in]

theorem S1_at (ci p : Fin 3) (d : Dev nD) (j : SQ.Idx) :
    S1 XA XB ci p d j = sum2 XA XB p d ((rQuart ci p (b0 p d) (1 - b1 p d)).emb j) :=
  (pay24_at _ _ j).trans (first_at XA XB ci p d _ j)
theorem Z1_at (ci p : Fin 3) (d : Dev nD) (j : SQ.Idx) :
    Z1 XA XB ci p d j = sum2 XA XB p d ((rQuart ci p (b0 p d) (b1 p d)).emb j) :=
  (pay27_at _ _ j).trans (first_at XA XB ci p d _ j)

/-- The second exchange. -/
theorem second_at (ci p : Fin 3) (d : Dev nD) (j : SQ.Idx) :
    Z1 XA XB ci p d j + S1 XA XB ci p (nbr (ax 1 p) d) j = sum4 XA XB p d ((rQuart ci p (b0 p d) (b1 p d)).emb j) := by
  have e0 : b0 p (nbr (ax 1 p) d) = b0 p d := bit_nbr_ne _ _ _ fun h => ax01 p h.symm
  have e1 : 1 - b1 p (nbr (ax 1 p) d) = b1 p d := by rw [b1, bit_nbr, sub_sub_cancel]
  rw [Z1_at, S1_at, e0, e1]
  rfl

theorem S2_at (ci p : Fin 3) (d : Dev nD) (j : SQ.Idx) :
    S2 XA XB ci p d j = sum4 XA XB p d ((rQuart ci p (b0 p d) (b1 p d)).emb j) :=
  (pay24_at _ _ j).trans (second_at XA XB ci p d j)
theorem Z2_at (ci p : Fin 3) (d : Dev nD) (j : SQ.Idx) :
    Z2 XA XB ci p d j = sum4 XA XB p d ((rQuart ci p (b0 p d) (b1 p d)).emb j) :=
  (pay27_at _ _ j).trans (second_at XA XB ci p d j)

/-- A device, its neighbours, and theirs are all the devices. -/
theorem devs_eq : ∀ (p : Fin 3) (d : Dev nD), (Finset.univ : Finset (Dev nD)).val
    = ([d, nbr (ax 0 p) d, nbr (ax 1 p) d, nbr (ax 0 p) (nbr (ax 1 p) d), nbr (ax 2 p) d, nbr (ax 0 p) (nbr (ax 2 p) d),
        nbr (ax 1 p) (nbr (ax 2 p) d), nbr (ax 0 p) (nbr (ax 1 p) (nbr (ax 2 p) d))] : List (Dev nD)) := by decide +kernel

theorem sum8_eq (p : Fin 3) (d : Dev nD) (i : SW.Idx) : sum4 XA XB p d i + sum4 XA XB p (nbr (ax 2 p) d) i = sum8 XA XB i := by
  unfold sum8 sum4 sum2
  rw [Finset.sum, devs_eq p d]
  simp [add_assoc]

theorem ax2 : ∀ p, ax 2 p ≠ ax 0 p ∧ ax 2 p ≠ ax 1 p := by decide +kernel

/-- After the third exchange: a device's quarter of the result. -/
theorem fin_at (ci p : Fin 3) (d : Dev nD) (j : SQ.Idx) :
    fin XA XB ci p d j = act (sum8 XA XB ((rQuart ci p (b0 p d) (b1 p d)).emb j)) := by
  have e0 : b0 p (nbr (ax 2 p) d) = b0 p d := bit_nbr_ne _ _ _ fun h => (ax2 p).1 h.symm
  have e1 : b1 p (nbr (ax 2 p) d) = b1 p d := bit_nbr_ne _ _ _ fun h => (ax2 p).2 h.symm
  refine (pay64_at _ _ j).trans ?_
  rw [Z2_at, S2_at, e0, e1, sum8_eq]

/-! ## The result put together -/

theorem cat_part {α : Type} (X : SH.Idx → α) : cat (fun k => part k X) = X := by
  refine funext fun i => congrArg X (funext fun a => Fin.ext ?_)
  fin_cases a
  · simp [Rect.emb_apply]; omega
  · simp [Rect.emb_apply]

theorem glue_half {α : Type} (X : SW.Idx → α) : glue (fun t j => X ((rHalf t.1.1 t.1.2 t.2).emb j)) = X := by
  refine funext fun i => congrArg X (funext fun a => Fin.ext ?_)
  fin_cases a
  · simp [Rect.emb_apply]; omega
  · simp [Rect.emb_apply]; omega

theorem eq_other {h k : Fin 2} (e : ¬ k = h) : k = 1 - h := by revert h k; decide

theorem halfv_eq (ci p : Fin 3) (d : Dev nD) :
    halfv XA XB ci p d = fun j => act (sum8 XA XB ((rHalf ci p (b0 p d)).emb j)) := by
  have e0 : b0 p (nbr (ax 3 p) d) = b0 p d := bit_nbr_ne _ _ _ fun h => ax01 p h.symm
  have e1 : b1 p (nbr (ax 3 p) d) = 1 - b1 p d := bit_nbr _ _
  refine Eq.trans (congrArg cat (funext fun k => funext fun j => ?_)) (cat_part _)
  show _ = act (sum8 XA XB ((rHalf ci p (b0 p d)).emb ((rIn k).emb j)))
  rw [emb_in]
  split_ifs with h
  · rw [fin_at, h]
  · rw [fin_at, e0, e1, eq_other h]

/-- Every device ends with the whole result. -/
theorem out_eq (d : Dev nD) : out XA XB d = fun i => act (sum8 XA XB i) := by
  refine Eq.trans (congrArg glue (funext fun t => ?_)) (glue_half _)
  have e0 : b0 t.1.2 (nbr (ax 4 t.1.2) d) = 1 - b0 t.1.2 d := bit_nbr _ _
  split_ifs with h
  · rw [halfv_eq, h]; rfl
  · rw [halfv_eq, e0, eq_other h]; rfl

end Sums

/-! ## The reference -/

/-- The reference's result from its two whole arguments. -/
def refOut (A : FVec Ideal ⟨2, ![1536, 6144]⟩ .bf16) (B : FVec Ideal ⟨2, ![6144, 1536]⟩ .bf16) : SW.Idx → EReal := fun i =>
  act (∑ k : Fin 6144, A (ix2 (i 0) k) * B (ix2 k (i 1)))

/-- The product over the whole contracted axis is the sum of the devices' shares. -/
theorem sum8_block (A : FVec Ideal ⟨2, ![1536, 6144]⟩ .bf16) (B : FVec Ideal ⟨2, ![6144, 1536]⟩ .bf16) (i : SW.Idx) :
    sum8 (fun d => Layout.block ⟨2, ![1536, 768]⟩ ⟨2, ![1536, 6144]⟩ 1 8 d A) (fun d => Layout.block ⟨2, ![768, 1536]⟩ ⟨2, ![6144, 1536]⟩ 0 8 d B) i
      = ∑ k : Fin 6144, A (ix2 (i 0) k) * B (ix2 k (i 1)) := by
  rw [← Equiv.sum_comp (finProdFinEquiv (m := 8) (n := 768)) (fun k : Fin 6144 => A (ix2 (i 0) k) * B (ix2 k (i 1))), Fintype.sum_prod_type]
  refine Finset.sum_congr rfl fun d _ => Finset.sum_congr rfl fun k _ => ?_
  refine congr (congrArg HMul.hMul (congrArg A (funext fun a => Fin.ext ?_))) (congrArg B (funext fun a => Fin.ext ?_))
  · fin_cases a
    · rfl
    · show d.val * 768 + k.val = k.val + 768 * d.val; omega
  · fin_cases a
    · show d.val * 768 + k.val = k.val + 768 * d.val; omega
    · rfl

/-- The reference ends with that result and its arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r =>
      ∀ c : Dev Cert.ReferenceIdeal.nD,
        r.2.mem ((c.tc : Thread Cert.ReferenceIdeal.nD Cert.ReferenceIdeal.τ).loc Cert.ReferenceIdeal.main_v6)
          = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) :=
  (θ_run Cert.ReferenceIdeal.defs _ _).mono
    (fun _ h c => ⟨(h c).1.trans (by funext i; pointwise [refOut, act]), (h c).2⟩)
    (Cert.ReferenceIdeal.Value.run m' ρ')

/-! ## The kernel's run -/

section Run

variable (m : (ℓ : Loc nD τ sig) → Buf (Elt Ideal) ℓ) (ρ : Dev nD → PrngReg)

/-- Each window's one block is the whole of its array. -/
theorem XA_eq (d : Dev nD) : XA m ρ d = m ((d : Thread nD τ).loc main_arg0) :=
  Memref.read_access_unit_zero (Elt Ideal) main_arg0 (funext fun a => by fin_cases a <;> decide) (fun a => by fin_cases a <;> decide) _
theorem XB_eq (d : Dev nD) : XB m ρ d = m ((d : Thread nD τ).loc main_arg1) :=
  Memref.read_access_unit_zero (Elt Ideal) main_arg1 (funext fun a => by fin_cases a <;> decide) (fun a => by fin_cases a <;> decide) _
theorem finalA_eq (d : Dev nD) : finalA m ρ d (2 : Fin 3) = fun i => act (sum8 (XA m ρ) (XB m ρ) i) :=
  ((Memref.read_access_unit_zero (Elt Ideal) main_v1 (funext fun a => by fin_cases a <;> decide) (fun a => by fin_cases a <;> decide) _).symm.trans
    (finalA_o m ρ d)).trans (out_eq _ _ d)

end Run

end Cert.KernelIdeal.Proof
end
-- ==== Proof.lean ====
/-
  The certificate: the frames of the three programs, and the kernel's value against the reference's.
-/
module

public import proofs.«01_k».proof.Defs
public import proofs.«01_k».proof.Proof.Launch
public import proofs.«01_k».proof.Proof.Bits.Launch
public import proofs.«01_k».proof.Proof.Value

@[expose] public section

noncomputable section

namespace Cert.Proof

open Idealize.ShloMosaic Idealize.SL.Sem

theorem frame_kernel : Cert.quiescent_Kernel := fun m ρ _ => Cert.Kernel.Proof.run_frame m ρ
theorem frame_kernelIdeal : Cert.quiescent_KernelIdeal := fun m ρ _ => Cert.KernelIdeal.Proof.run_frame m ρ
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Every device of the kernel ends with the reference's result, on the extended reals. -/
theorem algebraic : Cert.algebraic_KernelIdeal_ReferenceIdeal := by
  intro m ρ m' ρ' _ hagree
  refine ⟨_, (θ_run Cert.KernelIdeal.defs _ _).mono (fun r h c => ?_) (Cert.KernelIdeal.Proof.run_main m ρ),
    (θ_run Cert.ReferenceIdeal.defs _ _).mono (fun r h => h 0) (Cert.KernelIdeal.Proof.ref_run m' ρ')⟩
  refine ⟨(h.1 c (2 : Fin 3)).trans ((Cert.KernelIdeal.Proof.finalA_eq m ρ c).trans ?_),
    (h.1 c (0 : Fin 3)).trans (Cert.KernelIdeal.Proof.finalA_a m ρ c), (h.1 c (1 : Fin 3)).trans (Cert.KernelIdeal.Proof.finalA_b m ρ c)⟩
  rw [show Cert.KernelIdeal.Proof.XA m ρ = _ from funext fun d => (Cert.KernelIdeal.Proof.XA_eq m ρ d).trans (hagree d).1,
    show Cert.KernelIdeal.Proof.XB m ρ = _ from funext fun d => (Cert.KernelIdeal.Proof.XB_eq m ρ d).trans (hagree d).2]
  exact funext fun i => congrArg Cert.KernelIdeal.Proof.act (Cert.KernelIdeal.Proof.sum8_block _ _ i)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof
end
